-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)) (v1 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_v4) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v3) = v0 c
          ∧ r.2.mem ((c.tc : Thread Cert.NormReferenceIdeal.nD Cert.NormReferenceIdeal.τ).loc Cert.NormReferenceIdeal.main_v4) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3)) (v1 : (c : Dev Cert.DownIdeal.nD) → Buf (Elt Ideal) ((c.tc : Thread Cert.DownIdeal.nD Cert.DownIdeal.τ).loc Cert.DownIdeal.main_v4)) (v2 : (c : Dev Cert.DownIdeal.nD) → Buf (Elt Ideal) ((c.tc : Thread Cert.DownIdeal.nD Cert.DownIdeal.τ).loc Cert.DownIdeal.main_v5)) (v3 : (c : Dev Cert.DownIdeal.nD) → Buf (Elt Ideal) ((c.tc : Thread Cert.DownIdeal.nD Cert.DownIdeal.τ).loc Cert.DownIdeal.main_v6)) (v4 : (c : Dev Cert.DownIdeal.nD) → Buf (Elt Ideal) ((c.tc : Thread Cert.DownIdeal.nD Cert.DownIdeal.τ).loc Cert.DownIdeal.main_v7)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_v4) = v1 c
          ∧ r.2.mem ((c.tc : Thread Cert.DownIdeal.nD Cert.DownIdeal.τ).loc Cert.DownIdeal.main_v5) = v2 c
          ∧ r.2.mem ((c.tc : Thread Cert.DownIdeal.nD Cert.DownIdeal.τ).loc Cert.DownIdeal.main_v6) = v3 c
          ∧ r.2.mem ((c.tc : Thread Cert.DownIdeal.nD Cert.DownIdeal.τ).loc Cert.DownIdeal.main_v7) = v4 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_v4) = v1 c
          ∧ r.2.mem ((c.tc : Thread Cert.DownReferenceIdeal.nD Cert.DownReferenceIdeal.τ).loc Cert.DownReferenceIdeal.main_v5) = v2 c
          ∧ r.2.mem ((c.tc : Thread Cert.DownReferenceIdeal.nD Cert.DownReferenceIdeal.τ).loc Cert.DownReferenceIdeal.main_v6) = v3 c
          ∧ r.2.mem ((c.tc : Thread Cert.DownReferenceIdeal.nD Cert.DownReferenceIdeal.τ).loc Cert.DownReferenceIdeal.main_v7) = v4 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hDown : Cert.Down.Facts) (hDownIdeal : Cert.DownIdeal.Facts) (hDownReferenceIdeal : Cert.DownReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Down (hDown := hDown)
    ∧ quiescent_DownIdeal (hDownIdeal := hDownIdeal)
    ∧ quiescent_DownReferenceIdeal (hDownReferenceIdeal := hDownReferenceIdeal)
    ∧ preserves_Kernel_KernelIdeal
    ∧ algebraic_KernelIdeal_ReferenceIdeal (hKernelIdeal := hKernelIdeal) (hReferenceIdeal := hReferenceIdeal)
    ∧ preserves_Norm_NormIdeal
    ∧ algebraic_NormIdeal_NormReferenceIdeal (hNormIdeal := hNormIdeal) (hNormReferenceIdeal := hNormReferenceIdeal)
    ∧ preserves_Down_DownIdeal
    ∧ algebraic_DownIdeal_DownReferenceIdeal (hDownIdeal := hDownIdeal) (hDownReferenceIdeal := hDownReferenceIdeal)
-- ==== Kernel.lean ====
abbrev S10752x3584 : Shape := ⟨2, ![10752, 3584]⟩
abbrev S10752x1 : Shape := ⟨2, ![10752, 1]⟩
abbrev S3584x37888 : Shape := ⟨2, ![3584, 37888]⟩
abbrev S37888 : Shape := ⟨1, ![37888]⟩
abbrev S1x37888 : Shape := ⟨2, ![1, 37888]⟩
abbrev S10752x18944 : Shape := ⟨2, ![10752, 18944]⟩
abbrev S896x3584 : Shape := ⟨2, ![896, 3584]⟩
abbrev S896x1 : Shape := ⟨2, ![896, 1]⟩
abbrev S3584x256 : Shape := ⟨2, ![3584, 256]⟩
abbrev S1x256 : Shape := ⟨2, ![1, 256]⟩
abbrev S896x256 : Shape := ⟨2, ![896, 256]⟩
abbrev S896 : Shape := ⟨1, ![896]⟩

abbrev nBuf : Space → Nat
  | .hbm => 7
  | .vmem => 16
  | .smem => 0
  | _ => 0

abbrev bufTy : (tb : Table) → Fin (tcTables nBuf tb) → BufTy
  | .hbm, ⟨0, _⟩ => ⟨S10752x3584, .fp8e4m3⟩
  | .hbm, ⟨1, _⟩ => ⟨S10752x1, .f32⟩
  | .hbm, ⟨2, _⟩ => ⟨S3584x37888, .fp8e4m3⟩
  | .hbm, ⟨3, _⟩ => ⟨S37888, .f32⟩
  | .hbm, ⟨4, _⟩ => ⟨S1x37888, .f32⟩
  | .hbm, ⟨5, _⟩ => ⟨S10752x18944, .f32⟩
  | .hbm, ⟨6, _⟩ => ⟨S10752x1, .f32⟩
  | .local _ .vmem, ⟨0, _⟩ => ⟨S896x3584, .fp8e4m3⟩
  | .local _ .vmem, ⟨1, _⟩ => ⟨S896x3584, .fp8e4m3⟩
  | .local _ .vmem, ⟨2, _⟩ => ⟨S896x1, .f32⟩
  | .local _ .vmem, ⟨3, _⟩ => ⟨S896x1, .f32⟩
  | .local _ .vmem, ⟨4, _⟩ => ⟨S3584x256, .fp8e4m3⟩
  | .local _ .vmem, ⟨5, _⟩ => ⟨S3584x256, .fp8e4m3⟩
  | .local _ .vmem, ⟨6, _⟩ => ⟨S3584x256, .fp8e4m3⟩
  | .local _ .vmem, ⟨7, _⟩ => ⟨S3584x256, .fp8e4m3⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S896x256, .f32⟩
  | .local _ .vmem, ⟨13, _⟩ => ⟨S896x256, .f32⟩
  | .local _ .vmem, ⟨14, _⟩ => ⟨S896x1, .f32⟩
  | .local _ .vmem, ⟨15, _⟩ => ⟨S896x1, .f32⟩
  | _, _ => ⟨S10752x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![12, 74], ![false, false]⟩

def k0_cond1 (i : grid0.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_15 : BitVec 32 := 0#32
  let v27 : BitVec 1 := Scalar.cmpi .ne v26 c0_i32_15
  v27

def k0_cond2 (i : grid0.Coords) : BitVec 1 :=
  let arg1 : BitVec 32 := BitVec.ofNat 32 (i 1).val
  let c0_i32_16 : BitVec 32 := 0#32
  let v28 : BitVec 1 := Scalar.cmpi .ne arg1 c0_i32_16
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c74_i32 : BitVec 32 := 74#32
  let v0 : BitVec 32 := Scalar.addi arg1 c74_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c74_i32 : BitVec 32 := 74#32
  let v0 : BitVec 32 := Scalar.addi arg1 c74_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S896x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S896x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3584x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S896x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S896x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S10752x3584 : Shape := ⟨2, ![10752, 3584]⟩
abbrev S10752x1 : Shape := ⟨2, ![10752, 1]⟩
abbrev S3584x37888 : Shape := ⟨2, ![3584, 37888]⟩
abbrev S37888 : Shape := ⟨1, ![37888]⟩
abbrev S1x37888 : Shape := ⟨2, ![1, 37888]⟩
abbrev S10752x18944 : Shape := ⟨2, ![10752, 18944]⟩
abbrev S10752x37888 : Shape := ⟨2, ![10752, 37888]⟩
abbrev S10752 : Shape := ⟨1, ![10752]⟩

abbrev nBuf : Space → Nat
  | .hbm => 7
  | .vmem => 6
  | .smem => 0
  | _ => 0

abbrev bufTy : (tb : Table) → Fin (tcTables nBuf tb) → BufTy
  | .hbm, ⟨0, _⟩ => ⟨S10752x3584, .fp8e4m3⟩
  | .hbm, ⟨1, _⟩ => ⟨S10752x1, .f32⟩
  | .hbm, ⟨2, _⟩ => ⟨S3584x37888, .fp8e4m3⟩
  | .hbm, ⟨3, _⟩ => ⟨S37888, .f32⟩
  | .hbm, ⟨4, _⟩ => ⟨S1x37888, .f32⟩
  | .hbm, ⟨5, _⟩ => ⟨S10752x18944, .f32⟩
  | .hbm, ⟨6, _⟩ => ⟨S10752x1, .f32⟩
  | .local _ .vmem, ⟨0, _⟩ => ⟨S10752x3584, .fp8e4m3⟩
  | .local _ .vmem, ⟨1, _⟩ => ⟨S10752x1, .f32⟩
  | .local _ .vmem, ⟨2, _⟩ => ⟨S3584x37888, .fp8e4m3⟩
  | .local _ .vmem, ⟨3, _⟩ => ⟨S1x37888, .f32⟩
  | .local _ .vmem, ⟨4, _⟩ => ⟨S10752x18944, .f32⟩
  | .local _ .vmem, ⟨5, _⟩ => ⟨S10752x1, .f32⟩
  | _, _ => ⟨S10752x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S10752x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10752x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x37888 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x37888 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10752x18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10752x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Norm.lean ====
abbrev S12x896x3584 : Shape := ⟨3, ![12, 896, 3584]⟩
abbrev S3584 : Shape := ⟨1, ![3584]⟩
abbrev S10752x3584 : Shape := ⟨2, ![10752, 3584]⟩
abbrev S1x3584 : Shape := ⟨2, ![1, 3584]⟩
abbrev S10752x1 : Shape := ⟨2, ![10752, 1]⟩
abbrev S256x3584 : Shape := ⟨2, ![256, 3584]⟩
abbrev S256x1 : Shape := ⟨2, ![256, 1]⟩
abbrev S256 : Shape := ⟨1, ![256]⟩
abbrev S12x896 : Shape := ⟨2, ![12, 896]⟩

abbrev nBuf : Space → Nat
  | .hbm => 8
  | .vmem => 7
  | .smem => 0
  | _ => 0

abbrev bufTy : (tb : Table) → Fin (tcTables nBuf tb) → BufTy
  | .hbm, ⟨0, _⟩ => ⟨S12x896x3584, .bf16⟩
  | .hbm, ⟨1, _⟩ => ⟨S3584, .f32⟩
  | .hbm, ⟨2, _⟩ => ⟨S10752x3584, .bf16⟩
  | .hbm, ⟨3, _⟩ => ⟨S1x3584, .f32⟩
  | .hbm, ⟨4, _⟩ => ⟨S10752x3584, .fp8e4m3⟩
  | .hbm, ⟨5, _⟩ => ⟨S10752x1, .f32⟩
  | .hbm, ⟨6, _⟩ => ⟨S12x896x3584, .fp8e4m3⟩
  | .hbm, ⟨7, _⟩ => ⟨S12x896, .f32⟩
  | .local _ .vmem, ⟨0, _⟩ => ⟨S256x3584, .bf16⟩
  | .local _ .vmem, ⟨1, _⟩ => ⟨S256x3584, .bf16⟩
  | .local _ .vmem, ⟨2, _⟩ => ⟨S1x3584, .f32⟩
  | .local _ .vmem, ⟨3, _⟩ => ⟨S256x3584, .fp8e4m3⟩
  | .local _ .vmem, ⟨4, _⟩ => ⟨S256x3584, .fp8e4m3⟩
  | .local _ .vmem, ⟨5, _⟩ => ⟨S256x1, .f32⟩
  | .local _ .vmem, ⟨6, _⟩ => ⟨S256x1, .f32⟩
  | _, _ => ⟨S12x896x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S12x896x3584 : Shape := ⟨3, ![12, 896, 3584]⟩
abbrev S3584 : Shape := ⟨1, ![3584]⟩
abbrev S10752x3584 : Shape := ⟨2, ![10752, 3584]⟩
abbrev S1x3584 : Shape := ⟨2, ![1, 3584]⟩
abbrev S10752x1 : Shape := ⟨2, ![10752, 1]⟩
abbrev S10752 : Shape := ⟨1, ![10752]⟩
abbrev S12x896 : Shape := ⟨2, ![12, 896]⟩

abbrev nBuf : Space → Nat
  | .hbm => 8
  | .vmem => 4
  | .smem => 0
  | _ => 0

abbrev bufTy : (tb : Table) → Fin (tcTables nBuf tb) → BufTy
  | .hbm, ⟨0, _⟩ => ⟨S12x896x3584, .bf16⟩
  | .hbm, ⟨1, _⟩ => ⟨S3584, .f32⟩
  | .hbm, ⟨2, _⟩ => ⟨S10752x3584, .bf16⟩
  | .hbm, ⟨3, _⟩ => ⟨S1x3584, .f32⟩
  | .hbm, ⟨4, _⟩ => ⟨S10752x3584, .fp8e4m3⟩
  | .hbm, ⟨5, _⟩ => ⟨S10752x1, .f32⟩
  | .hbm, ⟨6, _⟩ => ⟨S12x896x3584, .fp8e4m3⟩
  | .hbm, ⟨7, _⟩ => ⟨S12x896, .f32⟩
  | .local _ .vmem, ⟨0, _⟩ => ⟨S10752x3584, .bf16⟩
  | .local _ .vmem, ⟨1, _⟩ => ⟨S1x3584, .f32⟩
  | .local _ .vmem, ⟨2, _⟩ => ⟨S10752x3584, .fp8e4m3⟩
  | .local _ .vmem, ⟨3, _⟩ => ⟨S10752x1, .f32⟩
  | _, _ => ⟨S12x896x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S10752x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10752x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10752x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Down.lean ====
abbrev S10752x18944 : Shape := ⟨2, ![10752, 18944]⟩
abbrev S10752x1 : Shape := ⟨2, ![10752, 1]⟩
abbrev S18944x3584 : Shape := ⟨2, ![18944, 3584]⟩
abbrev S3584 : Shape := ⟨1, ![3584]⟩
abbrev S12x896x3584 : Shape := ⟨3, ![12, 896, 3584]⟩
abbrev S10752x3584 : Shape := ⟨2, ![10752, 3584]⟩
abbrev S1x3584 : Shape := ⟨2, ![1, 3584]⟩
abbrev S512x512 : Shape := ⟨2, ![512, 512]⟩
abbrev S512x1 : Shape := ⟨2, ![512, 1]⟩
abbrev S512x3584 : Shape := ⟨2, ![512, 3584]⟩
abbrev S512 : Shape := ⟨1, ![512]⟩
abbrev S12x896x18944 : Shape := ⟨3, ![12, 896, 18944]⟩
abbrev S12x896 : Shape := ⟨2, ![12, 896]⟩

abbrev nBuf : Space → Nat
  | .hbm => 17
  | .vmem => 20
  | .smem => 0
  | _ => 0

abbrev bufTy : (tb : Table) → Fin (tcTables nBuf tb) → BufTy
  | .hbm, ⟨0, _⟩ => ⟨S10752x18944, .f32⟩
  | .hbm, ⟨1, _⟩ => ⟨S10752x1, .f32⟩
  | .hbm, ⟨2, _⟩ => ⟨S18944x3584, .fp8e4m3⟩
  | .hbm, ⟨3, _⟩ => ⟨S3584, .f32⟩
  | .hbm, ⟨4, _⟩ => ⟨S12x896x3584, .bf16⟩
  | .hbm, ⟨5, _⟩ => ⟨S10752x3584, .bf16⟩
  | .hbm, ⟨6, _⟩ => ⟨S1x3584, .f32⟩
  | .hbm, ⟨7, _⟩ => ⟨S10752x18944, .fp8e4m3⟩
  | .hbm, ⟨8, _⟩ => ⟨S10752x1, .f32⟩
  | .hbm, ⟨9, _⟩ => ⟨S10752x3584, .bf16⟩
  | .hbm, ⟨10, _⟩ => ⟨S10752x3584, .fp8e4m3⟩
  | .hbm, ⟨11, _⟩ => ⟨S10752x1, .f32⟩
  | .hbm, ⟨12, _⟩ => ⟨S12x896x3584, .bf16⟩
  | .hbm, ⟨13, _⟩ => ⟨S12x896x18944, .fp8e4m3⟩
  | .hbm, ⟨14, _⟩ => ⟨S12x896, .f32⟩
  | .hbm, ⟨15, _⟩ => ⟨S12x896x3584, .fp8e4m3⟩
  | .hbm, ⟨16, _⟩ => ⟨S12x896, .f32⟩
  | .local _ .vmem, ⟨0, _⟩ => ⟨S512x512, .f32⟩
  | .local _ .vmem, ⟨1, _⟩ => ⟨S512x512, .f32⟩
  | .local _ .vmem, ⟨2, _⟩ => ⟨S512x1, .f32⟩
  | .local _ .vmem, ⟨3, _⟩ => ⟨S512x1, .f32⟩
  | .local _ .vmem, ⟨4, _⟩ => ⟨S512x3584, .fp8e4m3⟩
  | .local _ .vmem, ⟨5, _⟩ => ⟨S512x3584, .fp8e4m3⟩
  | .local _ .vmem, ⟨6, _⟩ => ⟨S1x3584, .f32⟩
  | .local _ .vmem, ⟨7, _⟩ => ⟨S512x3584, .bf16⟩
  | .local _ .vmem, ⟨8, _⟩ => ⟨S512x3584, .bf16⟩
  | .local _ .vmem, ⟨9, _⟩ => ⟨S512x512, .fp8e4m3⟩
  | .local _ .vmem, ⟨10, _⟩ => ⟨S512x512, .fp8e4m3⟩
  | .local _ .vmem, ⟨11, _⟩ => ⟨S512x1, .f32⟩
  | .local _ .vmem, ⟨12, _⟩ => ⟨S512x1, .f32⟩
  | .local _ .vmem, ⟨13, _⟩ => ⟨S512x3584, .bf16⟩
  | .local _ .vmem, ⟨14, _⟩ => ⟨S512x3584, .bf16⟩
  | .local _ .vmem, ⟨15, _⟩ => ⟨S512x3584, .fp8e4m3⟩
  | .local _ .vmem, ⟨16, _⟩ => ⟨S512x3584, .fp8e4m3⟩
  | .local _ .vmem, ⟨17, _⟩ => ⟨S512x1, .f32⟩
  | .local _ .vmem, ⟨18, _⟩ => ⟨S512x1, .f32⟩
  | .local _ .vmem, ⟨19, _⟩ => ⟨S512x3584, .f32⟩
  | _, _ => ⟨S10752x18944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![21, 37], ![false, false]⟩

def k0_cond2 (i : grid0.Coords) : BitVec 1 :=
  let arg1 : BitVec 32 := BitVec.ofNat 32 (i 1).val
  let c36_i32 : BitVec 32 := 36#32
  let v102 : BitVec 1 := Scalar.cmpi .eq arg1 c36_i32
  let v103 : BitVec 32 := Scalar.extui v102
  let c0_i32_30 : BitVec 32 := 0#32
  let v104 : BitVec 1 := Scalar.cmpi .ne v103 c0_i32_30
  v104

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x3584 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DownReferenceIdeal.lean ====
abbrev S10752x18944 : Shape := ⟨2, ![10752, 18944]⟩
abbrev S10752x1 : Shape := ⟨2, ![10752, 1]⟩
abbrev S18944x3584 : Shape := ⟨2, ![18944, 3584]⟩
abbrev S3584 : Shape := ⟨1, ![3584]⟩
abbrev S12x896x3584 : Shape := ⟨3, ![12, 896, 3584]⟩
abbrev S1x3584 : Shape := ⟨2, ![1, 3584]⟩
abbrev S10752x3584 : Shape := ⟨2, ![10752, 3584]⟩
abbrev S10752 : Shape := ⟨1, ![10752]⟩
abbrev S12x896x18944 : Shape := ⟨3, ![12, 896, 18944]⟩
abbrev S12x896 : Shape := ⟨2, ![12, 896]⟩

abbrev nBuf : Space → Nat
  | .hbm => 17
  | .vmem => 10
  | .smem => 0
  | _ => 0

abbrev bufTy : (tb : Table) → Fin (tcTables nBuf tb) → BufTy
  | .hbm, ⟨0, _⟩ => ⟨S10752x18944, .f32⟩
  | .hbm, ⟨1, _⟩ => ⟨S10752x1, .f32⟩
  | .hbm, ⟨2, _⟩ => ⟨S18944x3584, .fp8e4m3⟩
  | .hbm, ⟨3, _⟩ => ⟨S3584, .f32⟩
  | .hbm, ⟨4, _⟩ => ⟨S12x896x3584, .bf16⟩
  | .hbm, ⟨5, _⟩ => ⟨S1x3584, .f32⟩
  | .hbm, ⟨6, _⟩ => ⟨S10752x3584, .bf16⟩
  | .hbm, ⟨7, _⟩ => ⟨S10752x18944, .fp8e4m3⟩
  | .hbm, ⟨8, _⟩ => ⟨S10752x1, .f32⟩
  | .hbm, ⟨9, _⟩ => ⟨S10752x3584, .bf16⟩
  | .hbm, ⟨10, _⟩ => ⟨S10752x3584, .fp8e4m3⟩
  | .hbm, ⟨11, _⟩ => ⟨S10752x1, .f32⟩
  | .hbm, ⟨12, _⟩ => ⟨S12x896x3584, .bf16⟩
  | .hbm, ⟨13, _⟩ => ⟨S12x896x18944, .fp8e4m3⟩
  | .hbm, ⟨14, _⟩ => ⟨S12x896, .f32⟩
  | .hbm, ⟨15, _⟩ => ⟨S12x896x3584, .fp8e4m3⟩
  | .hbm, ⟨16, _⟩ => ⟨S12x896, .f32⟩
  | .local _ .vmem, ⟨0, _⟩ => ⟨S10752x18944, .f32⟩
  | .local _ .vmem, ⟨1, _⟩ => ⟨S10752x1, .f32⟩
  | .local _ .vmem, ⟨2, _⟩ => ⟨S18944x3584, .fp8e4m3⟩
  | .local _ .vmem, ⟨3, _⟩ => ⟨S1x3584, .f32⟩
  | .local _ .vmem, ⟨4, _⟩ => ⟨S10752x3584, .bf16⟩
  | .local _ .vmem, ⟨5, _⟩ => ⟨S10752x18944, .fp8e4m3⟩
  | .local _ .vmem, ⟨6, _⟩ => ⟨S10752x1, .f32⟩
  | .local _ .vmem, ⟨7, _⟩ => ⟨S10752x3584, .bf16⟩
  | .local _ .vmem, ⟨8, _⟩ => ⟨S10752x3584, .fp8e4m3⟩
  | .local _ .vmem, ⟨9, _⟩ => ⟨S10752x1, .f32⟩
  | _, _ => ⟨S10752x18944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S10752x18944 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10752x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10752x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10752x18944 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10752x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10752x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10752x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10752x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Up.Spec.lean ====
module

public import Idealize.ShloMosaic.Lib.ValueIdx
public import Idealize.ShloMosaic.Lib.Pipeline.Value
public import Idealize.ShloMosaic.PureOps.Ideal.Laws

@[expose] public section

noncomputable section

/-! The mathematics of the gate-and-up product, index by index, over the extended reals: the scaled product, the gated
    activation, and the largest magnitude of a row, in full and up to a column. -/

namespace Up

open Idealize.ShloMosaic Idealize.ShloMosaic.ValueIdx

/-- The zero word of f32 denotes zero. -/
theorem ofBits_zero : Ideal.ofBits .f32 0x00000000#32 = 0 := by simp [Ideal.ofBits, Ideal.ieee]

/-- The word of f32's minus infinity denotes the least extended real. -/
theorem ofBits_bot : Ideal.ofBits .f32 0xFF800000#32 = ⊥ := by simp [Ideal.ofBits, Ideal.ieee]

/-- Magnitude of an extended real, as the kernels take it. -/
abbrev mag (x : EReal) : EReal := FloatOps.absf (F := Ideal) (φ := .f32) x

/-- The gate times its logistic times the up value. -/
def act (g u : EReal) : EReal := g * Ideal.logistic g * u

/-- A row of `X` against a column of `W`, times the row's and the column's scale. -/
def gu {M K N : Nat} (X : (⟨2, ![M, K]⟩ : Shape).Idx → EReal) (xs : (⟨2, ![M, 1]⟩ : Shape).Idx → EReal)
    (W : (⟨2, ![K, N]⟩ : Shape).Idx → EReal) (ws : (⟨2, ![1, N]⟩ : Shape).Idx → EReal) (r : Fin M) (j : Fin N) : EReal :=
  (∑ k : Fin K, X (ix2 r k) * W (ix2 k j)) * xs (ix2 r 0) * ws (ix2 0 j)

variable (X : (⟨2, ![10752, 3584]⟩ : Shape).Idx → EReal) (xs : (⟨2, ![10752, 1]⟩ : Shape).Idx → EReal)
  (W : (⟨2, ![3584, 37888]⟩ : Shape).Idx → EReal) (ws : (⟨2, ![1, 37888]⟩ : Shape).Idx → EReal)

/-- The activation at a row and a column: gate columns come first, up columns 18944 later. -/
def hval (r : Fin 10752) (j : Fin 18944) : EReal :=
  act (gu X xs W ws r ⟨j.val, by omega⟩) (gu X xs W ws r ⟨j.val + 18944, by omega⟩)

/-- The largest magnitude of a row over the columns before `n`. -/
def amaxTo (r : Fin 10752) (n : Nat) : EReal :=
  (Finset.univ.filter fun j : Fin 18944 => j.val < n).sup fun j => mag (hval X xs W ws r j)

/-- The largest magnitude of a row. -/
@[irreducible] def amax (r : Fin 10752) : EReal := Finset.univ.sup fun j : Fin 18944 => mag (hval X xs W ws r j)

/-- Over all columns the running maximum is the row's maximum. -/
theorem amaxTo_all (r : Fin 10752) : amaxTo X xs W ws r 18944 = amax X xs W ws r := by
  unfold amaxTo amax
  rw [Finset.filter_true_of_mem fun j _ => j.isLt]

/-- Before the first column the running maximum is the least element. -/
theorem amaxTo_zero (r : Fin 10752) : amaxTo X xs W ws r 0 = ⊥ := by
  unfold amaxTo
  rw [Finset.filter_false_of_mem fun j _ => Nat.not_lt_zero _, Finset.sup_empty]

/-- Taking in one more tile of 256 columns. -/
theorem amaxTo_step (r : Fin 10752) (b : Nat) (hb : b < 74) :
    amaxTo X xs W ws r (256 * (b + 1)) = max (amaxTo X xs W ws r (256 * b))
      (Finset.univ.sup fun q : Fin 256 => mag (hval X xs W ws r ⟨256 * b + q.val, by omega⟩)) := by
  unfold amaxTo
  apply le_antisymm
  · refine Finset.sup_le fun j hj => ?_
    have hj' : j.val < 256 * (b + 1) := (Finset.mem_filter.mp hj).2
    by_cases h : j.val < 256 * b
    · exact le_max_of_le_left (Finset.le_sup (f := fun j => mag (hval X xs W ws r j)) (Finset.mem_filter.mpr ⟨Finset.mem_univ _, h⟩))
    · refine le_max_of_le_right ?_
      have e : (⟨256 * b + (⟨j.val - 256 * b, by omega⟩ : Fin 256).val, by simp only; omega⟩ : Fin 18944) = j :=
        Fin.ext (by simp only; omega)
      have := Finset.le_sup (f := fun q : Fin 256 => mag (hval X xs W ws r ⟨256 * b + q.val, by omega⟩))
        (Finset.mem_univ (⟨j.val - 256 * b, by omega⟩ : Fin 256))
      simp only [e] at this
      exact this
  · refine max_le (Finset.sup_le fun j hj => ?_) (Finset.sup_le fun q _ => ?_)
    · have hj' : j.val < 256 * b := (Finset.mem_filter.mp hj).2
      exact Finset.le_sup (f := fun j => mag (hval X xs W ws r j)) (Finset.mem_filter.mpr ⟨Finset.mem_univ _, by omega⟩)
    · exact Finset.le_sup (f := fun j => mag (hval X xs W ws r j))
        (Finset.mem_filter.mpr ⟨Finset.mem_univ _, by simp only; omega⟩)

end Up
-- ==== Proof.Up.Block.lean ====
module

public import proofs.«01_k».proof.Proof.Gen.KernelIdeal.Skeleton
public import proofs.«01_k».proof.Proof.Up.Spec

@[expose] public section

noncomputable section

/-! What one grid step of the kernel computes from its blocks, index by index. -/

namespace Cert.KernelIdeal.Up

open Idealize.ShloMosaic Idealize.ShloMosaic.ValueIdx Cert.KernelIdeal Cert.KernelIdeal.Gen

/-- The matrix product at a row and a column is the sum over the contracted axis. -/
theorem dot_apply (x : Vec Ideal S896x3584 .fp8e4m3) (w : Vec Ideal S3584x256 .fp8e4m3) (p : Fin 896) (q : Fin 256) :
    (matmul (φ₁ := .fp8e4m3) (φ₂ := .fp8e4m3) dot_S896x3584_S3584x256_S896x256_1_0_0_1_n_n none x w (constant S896x256 .f32 0x00000000#32) : FVec Ideal S896x256 .f32) (ix2 p q)
      = ∑ k : Fin 3584, x (ix2 p k) * w (ix2 k q) := by
  rw [matmul, Ideal.matmul_def, Ideal.matmul]
  rw [show (constant S896x256 .f32 0x00000000#32 : FVec Ideal S896x256 .f32) (ix2 p q) = 0 from Up.ofBits_zero, zero_add]
  rw [← Equiv.sum_comp (contrEquiv1 dot_S896x3584_S3584x256_S896x256_1_0_0_1_n_n 3584 rfl rfl).symm]
  refine Finset.sum_congr rfl fun k _ => ?_
  have hk := contrEquiv1_symm_val dot_S896x3584_S3584x256_S896x256_1_0_0_1_n_n 3584 rfl rfl k
  have e1 : DotDims.lhsIdx dot_S896x3584_S3584x256_S896x256_1_0_0_1_n_n (ix2 p q) ((contrEquiv1 dot_S896x3584_S3584x256_S896x256_1_0_0_1_n_n 3584 rfl rfl).symm k) = ix2 p k := by
    refine Shape.idx_ext₂ ?_ ?_
    · simp [DotDims.lhsIdx, dot_S896x3584_S3584x256_S896x256_1_0_0_1_n_n]; rfl
    · refine Eq.trans ?_ hk
      simp [DotDims.lhsIdx, dot_S896x3584_S3584x256_S896x256_1_0_0_1_n_n]; rfl
  have e2 : DotDims.rhsIdx dot_S896x3584_S3584x256_S896x256_1_0_0_1_n_n (ix2 p q) ((contrEquiv1 dot_S896x3584_S3584x256_S896x256_1_0_0_1_n_n 3584 rfl rfl).symm k) = ix2 k q := by
    refine Shape.idx_ext₂ ?_ ?_
    · refine Eq.trans ?_ hk
      simp [DotDims.rhsIdx, dot_S896x3584_S3584x256_S896x256_1_0_0_1_n_n]; rfl
    · simp [DotDims.rhsIdx, dot_S896x3584_S3584x256_S896x256_1_0_0_1_n_n]; rfl
  rw [e1, e2]

/-- A column of row scales spread over the columns. -/
theorem rows_apply (v : FVec Ideal S896x1 .f32) (p : Fin 896) (q : Fin 256) :
    (broadcastTo S896x256 v broadcasts_S896x1_S896x256 : FVec Ideal S896x256 .f32) (ix2 p q) = v (ix2 p 0) :=
  broadcastTo_apply v _ (ix2 p q) (ix2 p 0) fun a => match a with
    | ⟨0, _⟩ => by show _ = if (896 : ℕ) = 1 then 0 else _; rw [if_neg (by decide)]; rfl
    | ⟨1, _⟩ => by rw [if_pos (by rfl)]; rfl

/-- A row of column scales spread over the rows. -/
theorem cols_apply (v : FVec Ideal S1x256 .f32) (p : Fin 896) (q : Fin 256) :
    (broadcastTo S896x256 v broadcasts_S1x256_S896x256 : FVec Ideal S896x256 .f32) (ix2 p q) = v (ix2 0 q) :=
  broadcastTo_apply v _ (ix2 p q) (ix2 0 q) fun a => match a with
    | ⟨0, _⟩ => by rw [if_pos (by rfl)]; rfl
    | ⟨1, _⟩ => by show _ = if (256 : ℕ) = 1 then 0 else _; rw [if_neg (by decide)]; rfl

/-- The row maximum of the magnitudes, as a column. -/
theorem rowmax_apply (v : FVec Ideal S896x256 .f32) (p : Fin 896) :
    (shapeCast S896x1 (multiReduction .maximumf [1] S896 (absf v) 0xFF800000#32 reduces_S896x256_S896 (.inl rfl) rfl)
      shapeCasts_S896_S896x1 : FVec Ideal S896x1 .f32) (ix2 p 0) = Finset.univ.sup fun q : Fin 256 => Up.mag (v (ix2 p q)) := by
  rw [shapeCast_apply _ _ (ix2 p 0) (fun a => match a with | ⟨0, _⟩ => p) (by rw [Shape.rowMajor_val_one, Shape.rowMajor_val_two]; simp [ix2])]
  refine (Ideal.multiReduction_maximumf_single _ _ _ _ _ _).trans ?_
  rw [show (FloatOps.ofBits .f32 0xFF800000#32 : Ideal .f32) = ⊥ from Up.ofBits_bot]
  refine Finset.fold_congr fun q _ => ?_
  refine congrArg (absf v) (Shape.idx_ext₂ rfl rfl)

/-- The stored activation tile at a row and a column. -/
theorem pay1_apply (x : Vec Ideal S896x3584 .fp8e4m3) (xs : Vec Ideal S896x1 .f32) (wg wu : Vec Ideal S3584x256 .fp8e4m3)
    (sg su : Vec Ideal S1x256 .f32) (p : Fin 896) (q : Fin 256) :
    Gen.k0_pay1 x xs wg sg wu su (ix2 p q)
      = _root_.Up.act (_root_.Up.gu x xs wg sg p q) (_root_.Up.gu x xs wu su p q) := by
  unfold Gen.k0_pay1 _root_.Up.act _root_.Up.gu
  simp only [shapeCast_self]
  rw [← dot_apply x wg p q, ← dot_apply x wu p q, ← rows_apply xs p q, ← cols_apply sg p q, ← cols_apply su p q]
  rfl

/-- The tile's row maxima. -/
theorem pay2_apply (x : Vec Ideal S896x3584 .fp8e4m3) (xs : Vec Ideal S896x1 .f32) (wg wu : Vec Ideal S3584x256 .fp8e4m3)
    (sg su : Vec Ideal S1x256 .f32) (p : Fin 896) :
    Gen.k0_pay2 x xs wg sg wu su (ix2 p 0) = Finset.univ.sup fun q : Fin 256 => _root_.Up.mag
      (_root_.Up.act (_root_.Up.gu x xs wg sg p q) (_root_.Up.gu x xs wu su p q)) := by
  unfold Gen.k0_pay2
  refine (rowmax_apply _ p).trans ?_
  simp only [pay1_apply]

/-- The running row maxima after a later tile. -/
theorem pay3_apply (x : Vec Ideal S896x3584 .fp8e4m3) (xs : Vec Ideal S896x1 .f32) (wg wu : Vec Ideal S3584x256 .fp8e4m3)
    (sg su : Vec Ideal S1x256 .f32) (o : Vec Ideal S896x1 .f32) (p : Fin 896) :
    Gen.k0_pay3 x xs wg sg wu su o (ix2 p 0)
      = max (o (ix2 p 0)) (Gen.k0_pay2 x xs wg sg wu su (ix2 p 0)) := by
  unfold Gen.k0_pay3
  simp only [shapeCast_self]
  rfl

end Cert.KernelIdeal.Up
-- ==== Proof.Up.Step.lean ====
module

public import proofs.«01_k».proof.Proof.Gen.KernelIdeal.Frame
public import Idealize.ShloMosaic.Lib.Pipeline.Value

@[expose] public section

set_option maxRecDepth 16384

noncomputable section

/-! What one grid step leaves in the two output buffers, as the values it stores. -/

namespace Cert.KernelIdeal.Up

open Idealize.ShloMosaic Idealize.ShloMosaic.TcCoe Idealize.SL.Sem Cert.KernelIdeal Cert.KernelIdeal.Gen

variable {F : FTy → Type} [FloatOps F]

/-- The offset of a whole-block access. -/
theorem hz : (![0, 0] : Fin 2 → Nat) = fun _ => 0 := funext fun a => by fin_cases a <;> rfl

/-- The first column step leaves the activation tile. -/
theorem out_A_6 (c : Dev nD) (i : grid0.Coords) (arg2 : Memref sig .tc .vmem S896x3584 .fp8e4m3) (harg2 : arg2.IsWhole) (arg3 : Memref sig .tc .vmem S896x1 .f32) (harg3 : arg3.IsWhole) (arg4 : Memref sig .tc .vmem S3584x256 .fp8e4m3) (harg4 : arg4.IsWhole) (arg5 : Memref sig .tc .vmem S3584x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x256 .f32) (harg8 : arg8.IsWhole) (arg9 : Memref sig .tc .vmem S896x1 .f32) (harg9 : arg9.IsWhole)
    (hc0 : k0_cond1 i = 1#1) (hc1 : ¬k0_cond2 i = 1#1) (x0 : Vec F S896x3584 .fp8e4m3) (x1 : Vec F S896x1 .f32) (x2 x3 : Vec F S3584x256 .fp8e4m3) (x4 x5 : Vec F S1x256 .f32) :
    out0_A_6 c i arg2 harg2 arg3 harg3 arg4 harg4 arg5 harg5 arg6 harg6 arg7 harg7 arg8 harg8 arg9 harg9 hc0 hc1 x0 x1 x2 x3 x4 x5 = k0_pay1 x0 x1 x2 x4 x3 x5 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  rw [View.canon_unit_zero hz]
  simp only [View.readAt_eq_ld, harg2.read_unread, harg3.read_unread, harg4.read_unread, harg5.read_unread, harg6.read_unread, harg7.read_unread,
    View.ld_unit_zero (S := S896x3584) hz, View.ld_unit_zero (S := S896x1) hz, View.ld_unit_zero (S := S3584x256) hz,
    View.ld_unit_zero (S := S1x256) hz]

/-- The first column step leaves the tile's row maxima. -/
theorem out_A_7 (c : Dev nD) (i : grid0.Coords) (arg2 : Memref sig .tc .vmem S896x3584 .fp8e4m3) (harg2 : arg2.IsWhole) (arg3 : Memref sig .tc .vmem S896x1 .f32) (harg3 : arg3.IsWhole) (arg4 : Memref sig .tc .vmem S3584x256 .fp8e4m3) (harg4 : arg4.IsWhole) (arg5 : Memref sig .tc .vmem S3584x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x256 .f32) (harg8 : arg8.IsWhole) (arg9 : Memref sig .tc .vmem S896x1 .f32) (harg9 : arg9.IsWhole)
    (hc0 : k0_cond1 i = 1#1) (hc1 : ¬k0_cond2 i = 1#1) (x0 : Vec F S896x3584 .fp8e4m3) (x1 : Vec F S896x1 .f32) (x2 x3 : Vec F S3584x256 .fp8e4m3) (x4 x5 : Vec F S1x256 .f32) :
    out0_A_7 c i arg2 harg2 arg3 harg3 arg4 harg4 arg5 harg5 arg6 harg6 arg7 harg7 arg8 harg8 arg9 harg9 hc0 hc1 x0 x1 x2 x3 x4 x5 = k0_pay2 x0 x1 x2 x4 x3 x5 := by
  unfold out0_A_7
  rw [View.read_writes_eq_canon _ _ _ (cover0_A_7 c i arg2 harg2 arg3 harg3 arg4 harg4 arg5 harg5 arg6 harg6 arg7 harg7 arg8 harg8 arg9 harg9 hc0 hc1 x0 x1 x2 x3 x4 x5)]
  unfold kernelRun0_A
  dsimp only
  rw [View.canon_unit_zero hz]
  simp only [View.readAt_eq_ld, harg2.read_unread, harg3.read_unread, harg4.read_unread, harg5.read_unread, harg6.read_unread, harg7.read_unread,
    View.ld_unit_zero (S := S896x3584) hz, View.ld_unit_zero (S := S896x1) hz, View.ld_unit_zero (S := S3584x256) hz,
    View.ld_unit_zero (S := S1x256) hz]

/-- A later column step leaves the activation tile. -/
theorem out_B_6 (c : Dev nD) (i : grid0.Coords) (arg2 : Memref sig .tc .vmem S896x3584 .fp8e4m3) (harg2 : arg2.IsWhole) (arg3 : Memref sig .tc .vmem S896x1 .f32) (harg3 : arg3.IsWhole) (arg4 : Memref sig .tc .vmem S3584x256 .fp8e4m3) (harg4 : arg4.IsWhole) (arg5 : Memref sig .tc .vmem S3584x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x256 .f32) (harg8 : arg8.IsWhole) (arg9 : Memref sig .tc .vmem S896x1 .f32) (harg9 : arg9.IsWhole)
    (hc0 : ¬k0_cond1 i = 1#1) (hc1 : k0_cond2 i = 1#1) (x0 : Vec F S896x3584 .fp8e4m3) (x1 : Vec F S896x1 .f32) (x2 x3 : Vec F S3584x256 .fp8e4m3) (x4 x5 : Vec F S1x256 .f32) (xo7 : Vec F S896x1 .f32) :
    out0_B_6 c i arg2 harg2 arg3 harg3 arg4 harg4 arg5 harg5 arg6 harg6 arg7 harg7 arg8 harg8 arg9 harg9 hc0 hc1 x0 x1 x2 x3 x4 x5 xo7 = k0_pay1 x0 x1 x2 x4 x3 x5 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo7)]
  unfold kernelRun0_B
  dsimp only
  rw [View.canon_unit_zero hz]
  simp only [View.readAt_eq_ld, harg2.read_unread, harg3.read_unread, harg4.read_unread, harg5.read_unread, harg6.read_unread, harg7.read_unread, harg9.read_unread,
    View.ld_unit_zero (S := S896x3584) hz, View.ld_unit_zero (S := S896x1) hz, View.ld_unit_zero (S := S3584x256) hz,
    View.ld_unit_zero (S := S1x256) hz]

/-- A later column step takes the tile's row maxima into the running ones. -/
theorem out_B_7 (c : Dev nD) (i : grid0.Coords) (arg2 : Memref sig .tc .vmem S896x3584 .fp8e4m3) (harg2 : arg2.IsWhole) (arg3 : Memref sig .tc .vmem S896x1 .f32) (harg3 : arg3.IsWhole) (arg4 : Memref sig .tc .vmem S3584x256 .fp8e4m3) (harg4 : arg4.IsWhole) (arg5 : Memref sig .tc .vmem S3584x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x256 .f32) (harg8 : arg8.IsWhole) (arg9 : Memref sig .tc .vmem S896x1 .f32) (harg9 : arg9.IsWhole)
    (hc0 : ¬k0_cond1 i = 1#1) (hc1 : k0_cond2 i = 1#1) (x0 : Vec F S896x3584 .fp8e4m3) (x1 : Vec F S896x1 .f32) (x2 x3 : Vec F S3584x256 .fp8e4m3) (x4 x5 : Vec F S1x256 .f32) (xo7 : Vec F S896x1 .f32) :
    out0_B_7 c i arg2 harg2 arg3 harg3 arg4 harg4 arg5 harg5 arg6 harg6 arg7 harg7 arg8 harg8 arg9 harg9 hc0 hc1 x0 x1 x2 x3 x4 x5 xo7 = k0_pay3 x0 x1 x2 x4 x3 x5 xo7 := by
  unfold out0_B_7
  rw [View.read_writes_eq_canon _ _ _ (cover0_B_7 c i arg2 harg2 arg3 harg3 arg4 harg4 arg5 harg5 arg6 harg6 arg7 harg7 arg8 harg8 arg9 harg9 hc0 hc1 x0 x1 x2 x3 x4 x5 xo7)]
  unfold kernelRun0_B
  dsimp only
  rw [View.canon_unit_zero hz]
  simp only [View.readAt_eq_ld, harg2.read_unread, harg3.read_unread, harg4.read_unread, harg5.read_unread, harg6.read_unread, harg7.read_unread, harg9.read_unread,
    View.ld_unit_zero (S := S896x3584) hz, View.ld_unit_zero (S := S896x1) hz, View.ld_unit_zero (S := S3584x256) hz,
    View.ld_unit_zero (S := S1x256) hz]

end Cert.KernelIdeal.Up
-- ==== Proof.Up.Reads.lean ====
module

public import proofs.«01_k».proof.Proof.Gen.KernelIdeal.Frame
public import Idealize.ShloMosaic.Lib.Pipeline.Value
public import Idealize.ShloMosaic.Lib.ValueIdx

@[expose] public section

set_option maxRecDepth 16384

noncomputable section

/-! Which rows and columns of the arguments each grid point's blocks hold. -/

namespace Cert.KernelIdeal.Up

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- Window 0's block at a grid point. -/
theorem index_0 : ∀ t : Fin cfg0.N, win0_0.index t 0 = t.val / 74 ∧ win0_0.index t 1 = 0 :=
  (by decide +kernel : ∀ t : Fin grid0.N, win0_0.index t 0 = t.val / 74 ∧ win0_0.index t 1 = 0)
/-- Window 1's block at a grid point. -/
theorem index_1 : ∀ t : Fin cfg0.N, win0_1.index t 0 = t.val / 74 ∧ win0_1.index t 1 = 0 :=
  (by decide +kernel : ∀ t : Fin grid0.N, win0_1.index t 0 = t.val / 74 ∧ win0_1.index t 1 = 0)
/-- Window 2's block at a grid point. -/
theorem index_2 : ∀ t : Fin cfg0.N, win0_2.index t 0 = 0 ∧ win0_2.index t 1 = t.val % 74 :=
  (by decide +kernel : ∀ t : Fin grid0.N, win0_2.index t 0 = 0 ∧ win0_2.index t 1 = t.val % 74)
/-- Window 3's block at a grid point. -/
theorem index_3 : ∀ t : Fin cfg0.N, win0_3.index t 0 = 0 ∧ win0_3.index t 1 = t.val % 74 + 74 :=
  (by decide +kernel : ∀ t : Fin grid0.N, win0_3.index t 0 = 0 ∧ win0_3.index t 1 = t.val % 74 + 74)
/-- Window 4's block at a grid point. -/
theorem index_4 : ∀ t : Fin cfg0.N, win0_4.index t 0 = 0 ∧ win0_4.index t 1 = t.val % 74 :=
  (by decide +kernel : ∀ t : Fin grid0.N, win0_4.index t 0 = 0 ∧ win0_4.index t 1 = t.val % 74)
/-- Window 5's block at a grid point. -/
theorem index_5 : ∀ t : Fin cfg0.N, win0_5.index t 0 = 0 ∧ win0_5.index t 1 = t.val % 74 + 74 :=
  (by decide +kernel : ∀ t : Fin grid0.N, win0_5.index t 0 = 0 ∧ win0_5.index t 1 = t.val % 74 + 74)
/-- Window 6's block at a grid point. -/
theorem index_6 : ∀ t : Fin cfg0.N, win0_6.index t 0 = t.val / 74 ∧ win0_6.index t 1 = t.val % 74 :=
  (by decide +kernel : ∀ t : Fin grid0.N, win0_6.index t 0 = t.val / 74 ∧ win0_6.index t 1 = t.val % 74)
/-- Window 7's block at a grid point. -/
theorem index_7 : ∀ t : Fin cfg0.N, win0_7.index t 0 = t.val / 74 ∧ win0_7.index t 1 = 0 :=
  (by decide +kernel : ∀ t : Fin grid0.N, win0_7.index t 0 = t.val / 74 ∧ win0_7.index t 1 = 0)

/-- The codes' block: a strip of 896 rows. -/
theorem iblk_0 (c : Dev nD) (t : Fin cfg0.N) (p : Fin 896) (q : Fin 3584) (r : Fin 10752) (j : Fin 3584)
    (hr : r.val = 896 * (t.val / 74) + p.val) (hj : j.val = q.val) :
    (iblk m c 0 t : Vec F S896x3584 .fp8e4m3) (ix2 p q) = m ((c : Thread nD τ).loc main_arg0) (ix2 r j) := by
  obtain ⟨i0, i1⟩ := index_0 t
  unfold iblk
  rw [View.read_apply]
  show V m c main_arg0 _ = _
  rw [V_main_arg0]
  refine congrArg _ (Shape.idx_ext₂ ?_ ?_)
  · show win0_0.index t 0 * 896 + 1 * p.val = r.val
    rw [i0, hr]; omega
  · show win0_0.index t 1 * 3584 + 1 * q.val = j.val
    rw [i1, hj]; omega

/-- The row scales' block. -/
theorem iblk_1 (c : Dev nD) (t : Fin cfg0.N) (p : Fin 896) (q : Fin 1) (r : Fin 10752) (j : Fin 1)
    (hr : r.val = 896 * (t.val / 74) + p.val) (hj : j.val = q.val) :
    (iblk m c 1 t : Vec F S896x1 .f32) (ix2 p q) = m ((c : Thread nD τ).loc main_arg1) (ix2 r j) := by
  obtain ⟨i0, i1⟩ := index_1 t
  unfold iblk
  rw [View.read_apply]
  show V m c main_arg1 _ = _
  rw [V_main_arg1]
  refine congrArg _ (Shape.idx_ext₂ ?_ ?_)
  · show win0_1.index t 0 * 896 + 1 * p.val = r.val
    rw [i0, hr]; omega
  · show win0_1.index t 1 * 1 + 1 * q.val = j.val
    rw [i1, hj]; omega

/-- The gate weights' block: 256 columns. -/
theorem iblk_2 (c : Dev nD) (t : Fin cfg0.N) (p : Fin 3584) (q : Fin 256) (r : Fin 3584) (j : Fin 37888)
    (hr : r.val = p.val) (hj : j.val = 256 * (t.val % 74) + q.val) :
    (iblk m c 2 t : Vec F S3584x256 .fp8e4m3) (ix2 p q) = m ((c : Thread nD τ).loc main_arg2) (ix2 r j) := by
  obtain ⟨i0, i1⟩ := index_2 t
  unfold iblk
  rw [View.read_apply]
  show V m c main_arg2 _ = _
  rw [V_main_arg2]
  refine congrArg _ (Shape.idx_ext₂ ?_ ?_)
  · show win0_2.index t 0 * 3584 + 1 * p.val = r.val
    rw [i0, hr]; omega
  · show win0_2.index t 1 * 256 + 1 * q.val = j.val
    rw [i1, hj]; omega

/-- The up weights' block: 256 columns, 18944 columns later. -/
theorem iblk_3 (c : Dev nD) (t : Fin cfg0.N) (p : Fin 3584) (q : Fin 256) (r : Fin 3584) (j : Fin 37888)
    (hr : r.val = p.val) (hj : j.val = 256 * (t.val % 74) + q.val + 18944) :
    (iblk m c 3 t : Vec F S3584x256 .fp8e4m3) (ix2 p q) = m ((c : Thread nD τ).loc main_arg2) (ix2 r j) := by
  obtain ⟨i0, i1⟩ := index_3 t
  unfold iblk
  rw [View.read_apply]
  show V m c main_arg2 _ = _
  rw [V_main_arg2]
  refine congrArg _ (Shape.idx_ext₂ ?_ ?_)
  · show win0_3.index t 0 * 3584 + 1 * p.val = r.val
    rw [i0, hr]; omega
  · show win0_3.index t 1 * 256 + 1 * q.val = j.val
    rw [i1, hj]; omega

/-- The gate scales' block. -/
theorem iblk_4 (c : Dev nD) (t : Fin cfg0.N) (p : Fin 1) (q : Fin 256) (r : Fin 1) (j : Fin 37888)
    (hr : r.val = p.val) (hj : j.val = 256 * (t.val % 74) + q.val) :
    (iblk m c 4 t : Vec F S1x256 .f32) (ix2 p q) = V m c main_v0 (ix2 r j) := by
  obtain ⟨i0, i1⟩ := index_4 t
  unfold iblk
  rw [View.read_apply]
  show V m c main_v0 _ = _
  refine congrArg _ (Shape.idx_ext₂ ?_ ?_)
  · show win0_4.index t 0 * 1 + 1 * p.val = r.val
    rw [i0, hr]; omega
  · show win0_4.index t 1 * 256 + 1 * q.val = j.val
    rw [i1, hj]; omega

/-- The up scales' block. -/
theorem iblk_5 (c : Dev nD) (t : Fin cfg0.N) (p : Fin 1) (q : Fin 256) (r : Fin 1) (j : Fin 37888)
    (hr : r.val = p.val) (hj : j.val = 256 * (t.val % 74) + q.val + 18944) :
    (iblk m c 5 t : Vec F S1x256 .f32) (ix2 p q) = V m c main_v0 (ix2 r j) := by
  obtain ⟨i0, i1⟩ := index_5 t
  unfold iblk
  rw [View.read_apply]
  show V m c main_v0 _ = _
  refine congrArg _ (Shape.idx_ext₂ ?_ ?_)
  · show win0_5.index t 0 * 1 + 1 * p.val = r.val
    rw [i0, hr]; omega
  · show win0_5.index t 1 * 256 + 1 * q.val = j.val
    rw [i1, hj]; omega

/-- The host's row of column scales: the argument with a unit axis in front. -/
theorem V_v0 (c : Dev nD) : V m c main_v0 = shapeCast S1x37888 (m ((c : Thread nD τ).loc main_arg3)) shapeCasts_S37888_S1x37888 := by
  unfold V
  after_results
  rfl

end Cert.KernelIdeal.Up
-- ==== Proof.Up.Arrays.lean ====
module

public import proofs.«01_k».proof.Proof.Gen.KernelIdeal.Value
public import proofs.«01_k».proof.Proof.Up.Block
public import proofs.«01_k».proof.Proof.Up.Step
public import proofs.«01_k».proof.Proof.Up.Reads

@[expose] public section

set_option maxRecDepth 16384

noncomputable section

/-! The two result arrays after the kernel's run: the activation and its row maxima, as functions of the arguments. -/

namespace Cert.KernelIdeal.Up

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The row strip's row `p` at a grid point. -/
abbrev row (t : Fin cfg0.N) (p : Fin 896) : Fin 10752 :=
  ⟨896 * (t.val / 74) + p.val, by have := lt_of_lt_of_eq t.isLt (show cfg0.N = 888 from N_0); omega⟩

/-- The column tile's column `q` at a grid point. -/
abbrev col (t : Fin cfg0.N) (q : Fin 256) : Fin 18944 :=
  ⟨256 * (t.val % 74) + q.val, by have := lt_of_lt_of_eq t.isLt (show cfg0.N = 888 from N_0); omega⟩

/-- The activation, of the arguments a device holds. -/
abbrev hv (c : Dev nD) : Fin 10752 → Fin 18944 → EReal :=
  _root_.Up.hval (m ((c : Thread nD τ).loc main_arg0)) (m ((c : Thread nD τ).loc main_arg1))
    (m ((c : Thread nD τ).loc main_arg2)) (V m c main_v0)

/-- The running row maximum, of the arguments a device holds. -/
abbrev am (c : Dev nD) : Fin 10752 → Nat → EReal :=
  _root_.Up.amaxTo (m ((c : Thread nD τ).loc main_arg0)) (m ((c : Thread nD τ).loc main_arg1))
    (m ((c : Thread nD τ).loc main_arg2)) (V m c main_v0)

/-- The row maximum, of the arguments a device holds. -/
abbrev ax (c : Dev nD) : Fin 10752 → EReal :=
  _root_.Up.amax (m ((c : Thread nD τ).loc main_arg0)) (m ((c : Thread nD τ).loc main_arg1))
    (m ((c : Thread nD τ).loc main_arg2)) (V m c main_v0)

/-- Before the first column the running maximum is the least element. -/
theorem am_zero (c : Dev nD) (r : Fin 10752) : am m c r 0 = ⊥ := _root_.Up.amaxTo_zero _ _ _ _ _

/-- Taking one more tile of columns into the running maximum. -/
theorem am_step (c : Dev nD) (r : Fin 10752) (b : Nat) (hb : b < 74) :
    am m c r (256 * (b + 1)) = max (am m c r (256 * b))
      (Finset.univ.sup fun q : Fin 256 => _root_.Up.mag (hv m c r ⟨256 * b + q.val, by omega⟩)) :=
  _root_.Up.amaxTo_step _ _ _ _ _ b hb

/-- The blocks' gate product is the arguments' at the point's row and column. -/
theorem gate_block (c : Dev nD) (t : Fin cfg0.N) (p : Fin 896) (q : Fin 256) :
    _root_.Up.gu (iblk m c 0 t : Vec Ideal S896x3584 .fp8e4m3) (iblk m c 1 t : Vec Ideal S896x1 .f32)
      (iblk m c 2 t : Vec Ideal S3584x256 .fp8e4m3) (iblk m c 4 t : Vec Ideal S1x256 .f32) p q
    = _root_.Up.gu (m ((c : Thread nD τ).loc main_arg0)) (m ((c : Thread nD τ).loc main_arg1))
      (m ((c : Thread nD τ).loc main_arg2)) (V m c main_v0) (row t p) ⟨(col t q).val, by have := (col t q).isLt; omega⟩ := by
  unfold _root_.Up.gu
  rw [iblk_1 m c t p 0 (row t p) 0 rfl rfl, iblk_4 m c t 0 q 0 ⟨(col t q).val, by have := (col t q).isLt; omega⟩ rfl rfl]
  refine congrArg (· * _ * _) (Finset.sum_congr rfl fun k _ => ?_)
  rw [iblk_0 m c t p k (row t p) k rfl rfl, iblk_2 m c t k q k ⟨(col t q).val, by have := (col t q).isLt; omega⟩ rfl rfl]

/-- The blocks' up product is the arguments' at the point's row and column. -/
theorem up_block (c : Dev nD) (t : Fin cfg0.N) (p : Fin 896) (q : Fin 256) :
    _root_.Up.gu (iblk m c 0 t : Vec Ideal S896x3584 .fp8e4m3) (iblk m c 1 t : Vec Ideal S896x1 .f32)
      (iblk m c 3 t : Vec Ideal S3584x256 .fp8e4m3) (iblk m c 5 t : Vec Ideal S1x256 .f32) p q
    = _root_.Up.gu (m ((c : Thread nD τ).loc main_arg0)) (m ((c : Thread nD τ).loc main_arg1))
      (m ((c : Thread nD τ).loc main_arg2)) (V m c main_v0) (row t p) ⟨(col t q).val + 18944, by have := (col t q).isLt; omega⟩ := by
  unfold _root_.Up.gu
  rw [iblk_1 m c t p 0 (row t p) 0 rfl rfl, iblk_5 m c t 0 q 0 ⟨(col t q).val + 18944, by have := (col t q).isLt; omega⟩ rfl rfl]
  refine congrArg (· * _ * _) (Finset.sum_congr rfl fun k _ => ?_)
  rw [iblk_0 m c t p k (row t p) k rfl rfl, iblk_3 m c t k q k ⟨(col t q).val + 18944, by have := (col t q).isLt; omega⟩ rfl rfl]

/-- The tile a point stores. -/
abbrev tile (c : Dev nD) (t : Fin cfg0.N) : Vec Ideal S896x256 .f32 :=
  k0_pay1 (iblk m c 0 t) (iblk m c 1 t) (iblk m c 2 t) (iblk m c 4 t) (iblk m c 3 t) (iblk m c 5 t)

/-- The tile's row maxima. -/
abbrev tileMax (c : Dev nD) (t : Fin cfg0.N) : Vec Ideal S896x1 .f32 :=
  k0_pay2 (iblk m c 0 t) (iblk m c 1 t) (iblk m c 2 t) (iblk m c 4 t) (iblk m c 3 t) (iblk m c 5 t)

/-- The tile holds the activation at the point's rows and columns. -/
theorem tile_apply (c : Dev nD) (t : Fin cfg0.N) (p : Fin 896) (q : Fin 256) :
    tile m c t (ix2 p q) = hv m c (row t p) (col t q) :=
  (pay1_apply _ _ _ _ _ _ p q).trans (by rw [gate_block, up_block]; rfl)

/-- The tile's row maxima, at the point's rows and columns. -/
theorem tileMax_apply (c : Dev nD) (t : Fin cfg0.N) (p : Fin 896) :
    tileMax m c t (ix2 p 0) = Finset.univ.sup fun q : Fin 256 => _root_.Up.mag (hv m c (row t p) (col t q)) :=
  (pay2_apply _ _ _ _ _ _ p).trans (Finset.sup_congr rfl fun q _ => by rw [gate_block, up_block]; rfl)

/-- After any point the activation buffer holds the point's tile. -/
theorem outs_fst (c : Dev nD) (t : Fin cfg0.N) : (outsAt0 m c t.val t.isLt).1 = tile m c t := by
  by_cases h0 : t.val % 74 = 0
  · rw [outsAt0_A m c t h0 (by omega)]; dsimp only; rw [out_A_6]
  · rw [outsAt0_B m c t h0 (by omega)]; dsimp only; rw [out_B_6]

/-- After any point the maximum buffer holds the row maxima over the columns up to and including the point's tile. -/
theorem outs_snd (c : Dev nD) : ∀ (n : ℕ) (h : n < cfg0.N) (p : Fin 896),
    (outsAt0 m c n h).2 (ix2 p 0) = am m c (row ⟨n, h⟩ p) (256 * (n % 74 + 1)) := by
  intro n
  induction n with
  | zero =>
    intro h p
    rw [outsAt0_A m c ⟨0, h⟩ rfl (by dsimp only; omega)]
    dsimp only
    rw [out_A_7]
    refine (tileMax_apply m c ⟨0, h⟩ p).trans ?_
    rw [am_step m c _ (0 % 74) (by decide)]
    have hz' : am m c (row ⟨0, h⟩ p) (256 * (0 % 74)) = ⊥ := am_zero m c _
    rw [hz', max_eq_right bot_le]
  | succ n ih =>
    intro h p
    have hb : (n + 1) % 74 < 74 := Nat.mod_lt _ (by decide)
    by_cases h0 : (n + 1) % 74 = 0
    · rw [outsAt0_A m c ⟨n + 1, h⟩ h0 (by dsimp only; omega)]
      dsimp only
      rw [out_A_7]
      refine (tileMax_apply m c ⟨n + 1, h⟩ p).trans ?_
      rw [am_step m c _ _ hb]
      have hz' : am m c (row ⟨n + 1, h⟩ p) (256 * ((n + 1) % 74)) = ⊥ := by
        rw [h0]; exact am_zero m c _
      rw [hz', max_eq_right bot_le]
    · rw [outsAt0_B m c ⟨n + 1, h⟩ h0 (by dsimp only; omega)]
      dsimp only
      rw [out_B_7]
      refine (pay3_apply _ _ _ _ _ _ _ p).trans ?_
      rw [am_step m c _ _ hb]
      refine congrArg₂ max ?_ (tileMax_apply m c ⟨n + 1, h⟩ p)
      refine (ih (Nat.lt_of_succ_lt h) p).trans ?_
      have hd : n / 74 = (n + 1) / 74 := by omega
      have hm : n % 74 + 1 = (n + 1) % 74 := by omega
      rw [hm]
      exact congrArg (fun r => am m c r _) (Fin.ext (by show 896 * (n / 74) + p.val = 896 * ((n + 1) / 74) + p.val; rw [hd]))

/-- The activation array. -/
abbrev G6 (c : Dev nD) : Buf (Elt Ideal) ((c : Thread nD τ).loc main_v1_0) := fun i => hv m c (i 0) (i 1)

/-- The array of row maxima. -/
abbrev G7 (c : Dev nD) : Buf (Elt Ideal) ((c : Thread nD τ).loc main_v1_1) := fun i => ax m c (i 0)

/-- What any point writes back to the activation array is its block of `G6`. -/
theorem flushed_6 (c : Dev nD) (t : Fin cfg0.N) (_ : (cfg0.win 6).flush t = true) :
    (dats m 0 c).flushed 6 t = ((cfg0.win 6).blk t).view.read (Elt Ideal) (G6 m c) := by
  obtain ⟨i0, i1⟩ := index_6 t
  refine (Value.flushed6 m c t).trans ?_
  rw [outs_fst]
  funext (y : S896x256.Idx)
  rw [View.read_apply]
  have e : (y : S896x256.Idx) = ix2 (y 0) (y 1) := eq_ix2 y
  show tile m c t y = hv m c _ _
  rw [e]
  refine (tile_apply m c t (y 0) (y 1)).trans (congrArg₂ (hv m c) (Fin.ext ?_) (Fin.ext ?_))
  · show 896 * (t.val / 74) + (y 0).val = win0_6.index t 0 * 896 + 1 * (y 0).val
    rw [i0]; omega
  · show 256 * (t.val % 74) + (y 1).val = win0_6.index t 1 * 256 + 1 * (y 1).val
    rw [i1]; omega

/-- What the last column step of a row strip writes back to the array of maxima is its block of `G7`. -/
theorem flushed_7 (c : Dev nD) (t : Fin cfg0.N) (hf : (cfg0.win 7).flush t = true) :
    (dats m 0 c).flushed 7 t = ((cfg0.win 7).blk t).view.read (Elt Ideal) (G7 m c) := by
  obtain ⟨i0, i1⟩ := index_7 t
  have h73 : t.val % 74 = 73 := (flush0_7 t).mp hf
  refine (Value.flushed7 m c t).trans ?_
  have hs := outs_snd m c t.val t.isLt
  generalize (outsAt0 m c t.val t.isLt).2 = o at hs ⊢
  funext (y : S896x1.Idx)
  rw [View.read_apply]
  have e : (y : S896x1.Idx) = ix2 (y 0) 0 := by
    refine (eq_ix2 y).trans (congrArg (ix2 (y 0)) (Fin.ext ?_))
    have := (y 1).isLt
    show (y 1).val = 0
    exact Nat.lt_one_iff.mp this
  show o y = ax m c _
  rw [e]
  refine (hs (y 0)).trans ?_
  rw [h73]
  refine (_root_.Up.amaxTo_all _ _ _ _ _).trans (congrArg (ax m c) (Fin.ext ?_))
  show 896 * (t.val / 74) + (y 0).val = win0_7.index t 0 * 896 + 1 * (y 0).val
  rw [i0]; omega

/-- The activation array after the run. -/
theorem final_6 (c : Dev nD) : (dats m 0 c).arrAt 6 cfg0.N = G6 m c :=
  (dats m 0 c).arrAt_eq_of_cover 6 (G6 m c) (flushed_6 m c) fun i => by
    have h0 : (i 0 : Nat) < 10752 := (i 0).isLt
    have h1 : (i 1 : Nat) < 18944 := (i 1).isLt
    have hlt : 74 * ((i 0 : Nat) / 896) + (i 1 : Nat) / 256 < cfg0.N := by rw [show cfg0.N = 888 from N_0]; omega
    refine ⟨⟨74 * ((i 0 : Nat) / 896) + (i 1 : Nat) / 256, hlt⟩, flush0_6 _, ?_⟩
    obtain ⟨i0, i1⟩ := index_6 ⟨74 * ((i 0 : Nat) / 896) + (i 1 : Nat) / 256, hlt⟩
    show i ∈ ((View.whole main_v1_0).slice (win0_6.rect ⟨74 * ((i 0 : Nat) / 896) + (i 1 : Nat) / 256, hlt⟩)).set
    rw [View.set_slice_whole, Rect.mem_set_unit]
    intro a
    match a with
    | ⟨0, _⟩ =>
      show win0_6.index _ 0 * 896 ≤ (i 0 : Nat) ∧ (i 0 : Nat) < win0_6.index _ 0 * 896 + 896
      rw [i0]; dsimp only; omega
    | ⟨1, _⟩ =>
      show win0_6.index _ 1 * 256 ≤ (i 1 : Nat) ∧ (i 1 : Nat) < win0_6.index _ 1 * 256 + 256
      rw [i1]; dsimp only; omega

/-- The array of row maxima after the run. -/
theorem final_7 (c : Dev nD) : (dats m 0 c).arrAt 7 cfg0.N = G7 m c :=
  (dats m 0 c).arrAt_eq_of_cover 7 (G7 m c) (flushed_7 m c) fun i => by
    have h0 : (i 0 : Nat) < 10752 := (i 0).isLt
    have h1 : (i 1 : Nat) < 1 := (i 1).isLt
    have hlt : 74 * ((i 0 : Nat) / 896) + 73 < cfg0.N := by rw [show cfg0.N = 888 from N_0]; omega
    refine ⟨⟨74 * ((i 0 : Nat) / 896) + 73, hlt⟩, (flush0_7 _).mpr (by dsimp only; omega), ?_⟩
    obtain ⟨i0, i1⟩ := index_7 ⟨74 * ((i 0 : Nat) / 896) + 73, hlt⟩
    show i ∈ ((View.whole main_v1_1).slice (win0_7.rect ⟨74 * ((i 0 : Nat) / 896) + 73, hlt⟩)).set
    rw [View.set_slice_whole, Rect.mem_set_unit]
    intro a
    match a with
    | ⟨0, _⟩ =>
      show win0_7.index _ 0 * 896 ≤ (i 0 : Nat) ∧ (i 0 : Nat) < win0_7.index _ 0 * 896 + 896
      rw [i0]; dsimp only; omega
    | ⟨1, _⟩ =>
      show win0_7.index _ 1 * 1 ≤ (i 1 : Nat) ∧ (i 1 : Nat) < win0_7.index _ 1 * 1 + 1
      rw [i1]; dsimp only; omega

end Cert.KernelIdeal.Up
-- ==== Proof.Up.RefArrays.lean ====
module

public import proofs.«01_k».proof.Proof.Gen.ReferenceIdeal.Frame
public import Idealize.ShloMosaic.Lib.Pipeline.Value

@[expose] public section

set_option maxRecDepth 16384

noncomputable section

/-! The reference's run: its two result arrays as the body's values of the arguments. -/

namespace Cert.ReferenceIdeal.Up

open Idealize.ShloMosaic Idealize.ShloMosaic.TcCoe Idealize.SL.Sem Cert.ReferenceIdeal Cert.ReferenceIdeal.Gen
open Idealize.ShloMosaic.Pipeline (Dat)

variable {F : FTy → Type} [FloatOps F]
variable (m : (ℓ : Loc nD τ sig) → Buf (Elt F) ℓ) (ρ : Dev nD → PrngReg)

/-- The one grid point. -/
abbrev pt : Fin cfg0.N := ⟨0, by decide⟩

/-- Window 0's block is its whole array. -/
theorem iblk_0 (c : Dev nD) : iblk m c 0 pt = V m c main_arg0 := by
  have hz' : (fun a => win0_0.index pt a * main_arg0.ty.shape.size a) = fun _ => 0 := funext fun a => by fin_cases a <;> decide
  exact Memref.read_access_unit_zero (Elt F) main_arg0 hz' (fun a => by rw [congrFun hz' a]; simp) (V m c main_arg0)

/-- Window 1's block is its whole array. -/
theorem iblk_1 (c : Dev nD) : iblk m c 1 pt = V m c main_arg1 := by
  have hz' : (fun a => win0_1.index pt a * main_arg1.ty.shape.size a) = fun _ => 0 := funext fun a => by fin_cases a <;> decide
  exact Memref.read_access_unit_zero (Elt F) main_arg1 hz' (fun a => by rw [congrFun hz' a]; simp) (V m c main_arg1)

/-- Window 2's block is its whole array. -/
theorem iblk_2 (c : Dev nD) : iblk m c 2 pt = V m c main_arg2 := by
  have hz' : (fun a => win0_2.index pt a * main_arg2.ty.shape.size a) = fun _ => 0 := funext fun a => by fin_cases a <;> decide
  exact Memref.read_access_unit_zero (Elt F) main_arg2 hz' (fun a => by rw [congrFun hz' a]; simp) (V m c main_arg2)

/-- Window 3's block is its whole array. -/
theorem iblk_3 (c : Dev nD) : iblk m c 3 pt = V m c main_v0 := by
  have hz' : (fun a => win0_3.index pt a * main_v0.ty.shape.size a) = fun _ => 0 := funext fun a => by fin_cases a <;> decide
  exact Memref.read_access_unit_zero (Elt F) main_v0 hz' (fun a => by rw [congrFun hz' a]; simp) (V m c main_v0)

/-- The host's row of column scales: the argument with a unit axis in front. -/
theorem V_v0 (c : Dev nD) : V m c main_v0 = shapeCast S1x37888 (m ((c : Thread nD τ).loc main_arg3)) shapeCasts_S37888_S1x37888 := by
  unfold V
  after_results
  rfl

/-- The offset of a whole-block access. -/
theorem hz : (![0, 0] : Fin 2 → Nat) = fun _ => 0 := funext fun a => by fin_cases a <;> rfl

/-- What the reference's body leaves for window 4. -/
theorem out_4 (x0 : Vec F S10752x3584 .fp8e4m3) (x1 : Vec F S10752x1 .f32) (x2 : Vec F S3584x37888 .fp8e4m3) (x3 : Vec F S1x37888 .f32) :
    out0_4 x0 x1 x2 x3 = k0_pay1 x0 x2 x1 x3 := by
  unfold out0_4
  rw [View.canon_unit_zero hz, View.ld_unit_zero (S := S10752x3584) hz, View.ld_unit_zero (S := S3584x37888) hz,
    View.ld_unit_zero (S := S10752x1) hz, View.ld_unit_zero (S := S1x37888) hz]

/-- The result array of window 4 after the run. -/
theorem final_4 (c : Dev nD) : (dats m 0 c).arrAt 4 cfg0.N
    = (k0_pay1 (V m c main_arg0) (V m c main_arg2) (V m c main_arg1) (V m c main_v0) : Vec F S10752x18944 .f32) := by
  have hz' : (fun a => win0_4.index pt a * main_v1_0.ty.shape.size a) = fun _ => 0 := funext fun a => by fin_cases a <;> decide
  refine (dats m 0 c).arrAt_eq_of_cover 4 _ (fun t _ => ?_) fun i => ⟨pt, by decide, ?_⟩
  · obtain rfl : t = pt := Fin.ext (by have := lt_of_lt_of_eq t.isLt (show cfg0.N = 1 from N_0); show t.val = 0; omega)
    show (cfg0.win 4).cut (grid0.coords pt) ((dats m 0 c).after 4 pt) = _
    rw [after0_4, out_4, iblk_0, iblk_1, iblk_2, iblk_3]
    exact (Memref.read_access_unit_zero (Elt F) main_v1_0 hz' (fun a => by rw [congrFun hz' a]; simp) _).symm
  · show i ∈ ((View.whole main_v1_0).slice (win0_4.rect pt)).set
    rw [View.set_slice_whole]
    exact View.mem_set_unit_zero (S := S10752x18944) hz' (fun a => by rw [congrFun hz' a]; simp) i

/-- What the reference's body leaves for window 5. -/
theorem out_5 (x0 : Vec F S10752x3584 .fp8e4m3) (x1 : Vec F S10752x1 .f32) (x2 : Vec F S3584x37888 .fp8e4m3) (x3 : Vec F S1x37888 .f32) :
    out0_5 x0 x1 x2 x3 = k0_pay2 x0 x2 x1 x3 := by
  unfold out0_5
  rw [View.canon_unit_zero hz, View.ld_unit_zero (S := S10752x3584) hz, View.ld_unit_zero (S := S3584x37888) hz,
    View.ld_unit_zero (S := S10752x1) hz, View.ld_unit_zero (S := S1x37888) hz]

/-- The result array of window 5 after the run. -/
theorem final_5 (c : Dev nD) : (dats m 0 c).arrAt 5 cfg0.N
    = (k0_pay2 (V m c main_arg0) (V m c main_arg2) (V m c main_arg1) (V m c main_v0) : Vec F S10752x1 .f32) := by
  have hz' : (fun a => win0_5.index pt a * main_v1_1.ty.shape.size a) = fun _ => 0 := funext fun a => by fin_cases a <;> decide
  refine (dats m 0 c).arrAt_eq_of_cover 5 _ (fun t _ => ?_) fun i => ⟨pt, by decide, ?_⟩
  · obtain rfl : t = pt := Fin.ext (by have := lt_of_lt_of_eq t.isLt (show cfg0.N = 1 from N_0); show t.val = 0; omega)
    show (cfg0.win 5).cut (grid0.coords pt) ((dats m 0 c).after 5 pt) = _
    rw [after0_5, out_5, iblk_0, iblk_1, iblk_2, iblk_3]
    exact (Memref.read_access_unit_zero (Elt F) main_v1_1 hz' (fun a => by rw [congrFun hz' a]; simp) _).symm
  · show i ∈ ((View.whole main_v1_1).slice (win0_5.rect pt)).set
    rw [View.set_slice_whole]
    exact View.mem_set_unit_zero (S := S10752x1) hz' (fun a => by rw [congrFun hz' a]; simp) i

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      kept_main_arg0 m r h c,
      kept_main_arg1 m r h c,
      kept_main_arg2 m r h c,
      kept_main_arg3 m r h c⟩)
    (run_main m ρ)

end Cert.ReferenceIdeal.Up
-- ==== Proof.Up.RefBlock.lean ====
module

public import proofs.«01_k».proof.Proof.Gen.ReferenceIdeal.Skeleton
public import proofs.«01_k».proof.Proof.Up.Spec

@[expose] public section

noncomputable section

/-! What the reference computes from its arguments, index by index. -/

namespace Cert.ReferenceIdeal.Up

open Idealize.ShloMosaic Idealize.ShloMosaic.ValueIdx Cert.ReferenceIdeal Cert.ReferenceIdeal.Gen

/-- The matrix product at a row and a column is the sum over the contracted axis. -/
theorem dot_apply (x : Vec Ideal S10752x3584 .fp8e4m3) (w : Vec Ideal S3584x37888 .fp8e4m3) (p : Fin 10752) (q : Fin 37888) :
    (matmul (φ₁ := .fp8e4m3) (φ₂ := .fp8e4m3) dot_S10752x3584_S3584x37888_S10752x37888_1_0_0_1_n_n none x w (constant S10752x37888 .f32 0x00000000#32) : FVec Ideal S10752x37888 .f32) (ix2 p q)
      = ∑ k : Fin 3584, x (ix2 p k) * w (ix2 k q) := by
  rw [matmul, Ideal.matmul_def, Ideal.matmul]
  rw [show (constant S10752x37888 .f32 0x00000000#32 : FVec Ideal S10752x37888 .f32) (ix2 p q) = 0 from Up.ofBits_zero, zero_add]
  rw [← Equiv.sum_comp (contrEquiv1 dot_S10752x3584_S3584x37888_S10752x37888_1_0_0_1_n_n 3584 rfl rfl).symm]
  refine Finset.sum_congr rfl fun k _ => ?_
  have hk := contrEquiv1_symm_val dot_S10752x3584_S3584x37888_S10752x37888_1_0_0_1_n_n 3584 rfl rfl k
  have e1 : DotDims.lhsIdx dot_S10752x3584_S3584x37888_S10752x37888_1_0_0_1_n_n (ix2 p q) ((contrEquiv1 dot_S10752x3584_S3584x37888_S10752x37888_1_0_0_1_n_n 3584 rfl rfl).symm k) = ix2 p k := by
    refine Shape.idx_ext₂ ?_ ?_
    · simp [DotDims.lhsIdx, dot_S10752x3584_S3584x37888_S10752x37888_1_0_0_1_n_n]; rfl
    · refine Eq.trans ?_ hk
      simp [DotDims.lhsIdx, dot_S10752x3584_S3584x37888_S10752x37888_1_0_0_1_n_n]; rfl
  have e2 : DotDims.rhsIdx dot_S10752x3584_S3584x37888_S10752x37888_1_0_0_1_n_n (ix2 p q) ((contrEquiv1 dot_S10752x3584_S3584x37888_S10752x37888_1_0_0_1_n_n 3584 rfl rfl).symm k) = ix2 k q := by
    refine Shape.idx_ext₂ ?_ ?_
    · refine Eq.trans ?_ hk
      simp [DotDims.rhsIdx, dot_S10752x3584_S3584x37888_S10752x37888_1_0_0_1_n_n]; rfl
    · simp [DotDims.rhsIdx, dot_S10752x3584_S3584x37888_S10752x37888_1_0_0_1_n_n]; rfl
  rw [e1, e2]

/-- A column of row scales spread over the columns. -/
theorem rows_apply (v : FVec Ideal S10752x1 .f32) (p : Fin 10752) (q : Fin 37888) :
    (broadcastTo S10752x37888 v broadcasts_S10752x1_S10752x37888 : FVec Ideal S10752x37888 .f32) (ix2 p q) = v (ix2 p 0) :=
  broadcastTo_apply v _ (ix2 p q) (ix2 p 0) fun a => match a with
    | ⟨0, _⟩ => by show _ = if (10752 : ℕ) = 1 then 0 else _; rw [if_neg (by decide)]; rfl
    | ⟨1, _⟩ => by rw [if_pos (by rfl)]; rfl

/-- A row of column scales spread over the rows. -/
theorem cols_apply (v : FVec Ideal S1x37888 .f32) (p : Fin 10752) (q : Fin 37888) :
    (broadcastTo S10752x37888 v broadcasts_S1x37888_S10752x37888 : FVec Ideal S10752x37888 .f32) (ix2 p q) = v (ix2 0 q) :=
  broadcastTo_apply v _ (ix2 p q) (ix2 0 q) fun a => match a with
    | ⟨0, _⟩ => by rw [if_pos (by rfl)]; rfl
    | ⟨1, _⟩ => by show _ = if (37888 : ℕ) = 1 then 0 else _; rw [if_neg (by decide)]; rfl

/-- The row maximum of the magnitudes, as a column. -/
theorem rowmax_apply (v : FVec Ideal S10752x18944 .f32) (p : Fin 10752) :
    (shapeCast S10752x1 (multiReduction .maximumf [1] S10752 (absf v) 0xFF800000#32 reduces_S10752x18944_S10752 (.inl rfl) rfl)
      shapeCasts_S10752_S10752x1 : FVec Ideal S10752x1 .f32) (ix2 p 0) = Finset.univ.sup fun q : Fin 18944 => Up.mag (v (ix2 p q)) := by
  rw [shapeCast_apply _ _ (ix2 p 0) (fun a => match a with | ⟨0, _⟩ => p) (by rw [Shape.rowMajor_val_one, Shape.rowMajor_val_two]; simp [ix2])]
  refine (Ideal.multiReduction_maximumf_single _ _ _ _ _ _).trans ?_
  rw [show (FloatOps.ofBits .f32 0xFF800000#32 : Ideal .f32) = ⊥ from Up.ofBits_bot]
  refine Finset.fold_congr fun q _ => ?_
  refine congrArg (absf v) (Shape.idx_ext₂ rfl rfl)

/-- The gate half of the columns. -/
theorem gate_apply (v : FVec Ideal S10752x37888 .f32) (r : Fin 10752) (j : Fin 18944) :
    (extractStridedSlice S10752x18944 ![0, 0] v slices_S10752x37888_o0_0_S10752x18944 : FVec Ideal S10752x18944 .f32) (ix2 r j)
      = v (ix2 r ⟨j.val, by omega⟩) :=
  extractStridedSlice_apply _ v _ (ix2 r j) _ fun a => match a with
    | ⟨0, _⟩ => (Nat.zero_add _).symm
    | ⟨1, _⟩ => (Nat.zero_add _).symm

/-- The up half of the columns. -/
theorem up_apply (v : FVec Ideal S10752x37888 .f32) (r : Fin 10752) (j : Fin 18944) :
    (extractStridedSlice S10752x18944 ![0, 18944] v slices_S10752x37888_o0_18944_S10752x18944 : FVec Ideal S10752x18944 .f32) (ix2 r j)
      = v (ix2 r ⟨j.val + 18944, by omega⟩) :=
  extractStridedSlice_apply _ v _ (ix2 r j) _ fun a => match a with
    | ⟨0, _⟩ => (Nat.zero_add _).symm
    | ⟨1, _⟩ => Nat.add_comm _ _

/-- The scaled product, before it is cut in halves. -/
theorem scaled_apply (x : Vec Ideal S10752x3584 .fp8e4m3) (w : Vec Ideal S3584x37888 .fp8e4m3) (xs : Vec Ideal S10752x1 .f32)
    (ws : Vec Ideal S1x37888 .f32) (r : Fin 10752) (j : Fin 37888) :
    (mulf (mulf (matmul (φ₁ := .fp8e4m3) (φ₂ := .fp8e4m3) dot_S10752x3584_S3584x37888_S10752x37888_1_0_0_1_n_n none x w (constant S10752x37888 .f32 0x00000000#32))
      (broadcastTo S10752x37888 xs broadcasts_S10752x1_S10752x37888)) (broadcastTo S10752x37888 ws broadcasts_S1x37888_S10752x37888)
        : FVec Ideal S10752x37888 .f32) (ix2 r j) = _root_.Up.gu x xs w ws r j := by
  unfold _root_.Up.gu
  rw [← dot_apply x w r j, ← rows_apply xs r j, ← cols_apply ws r j]
  rfl

/-- The activation at a row and a column. -/
theorem pay1_apply (x : Vec Ideal S10752x3584 .fp8e4m3) (w : Vec Ideal S3584x37888 .fp8e4m3) (xs : Vec Ideal S10752x1 .f32)
    (ws : Vec Ideal S1x37888 .f32) (r : Fin 10752) (j : Fin 18944) :
    Gen.k0_pay1 x w xs ws (ix2 r j) = _root_.Up.hval x xs w ws r j := by
  unfold Gen.k0_pay1 _root_.Up.hval _root_.Up.act
  simp only [shapeCast_self]
  rw [← (gate_apply _ r j).trans (scaled_apply x w xs ws r ⟨j.val, by omega⟩),
    ← (up_apply _ r j).trans (scaled_apply x w xs ws r ⟨j.val + 18944, by omega⟩)]
  rfl

/-- The row maxima. -/
theorem pay2_apply (x : Vec Ideal S10752x3584 .fp8e4m3) (w : Vec Ideal S3584x37888 .fp8e4m3) (xs : Vec Ideal S10752x1 .f32)
    (ws : Vec Ideal S1x37888 .f32) (r : Fin 10752) :
    Gen.k0_pay2 x w xs ws (ix2 r 0) = _root_.Up.amax x xs w ws r := by
  unfold Gen.k0_pay2
  refine (rowmax_apply _ r).trans ?_
  unfold _root_.Up.amax
  simp only [pay1_apply]

end Cert.ReferenceIdeal.Up
-- ==== Proof.Up.Equation.lean ====
module

public import proofs.«01_k».proof.Defs
public import proofs.«01_k».proof.Proof.Up.Arrays
public import proofs.«01_k».proof.Proof.Up.RefArrays
public import proofs.«01_k».proof.Proof.Up.RefBlock

@[expose] public section

set_option maxRecDepth 16384

noncomputable section

/-! The equation: over the extended reals the kernel's two arrays are the reference's. -/

namespace Cert.UpEquation

open Idealize.ShloMosaic Idealize.ShloMosaic.TcCoe Idealize.ShloMosaic.ValueIdx Idealize.SL.Sem

/-- From equal arguments the reference's activation array is the kernel's. -/
theorem act_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (e2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (e3 : m' ((c : Thread Cert.ReferenceIdeal.nD Cert.ReferenceIdeal.τ).loc Cert.ReferenceIdeal.main_arg3) = m ((c : Thread Cert.KernelIdeal.nD Cert.KernelIdeal.τ).loc Cert.KernelIdeal.main_arg3)) :
    (Cert.ReferenceIdeal.Gen.dats m' 0 c).arrAt 4 Cert.ReferenceIdeal.cfg0.N = Cert.KernelIdeal.Up.G6 m c := by
  rw [Cert.ReferenceIdeal.Up.final_4, Cert.ReferenceIdeal.Gen.V_main_arg0, Cert.ReferenceIdeal.Gen.V_main_arg1,
    Cert.ReferenceIdeal.Gen.V_main_arg2, Cert.ReferenceIdeal.Up.V_v0, e0, e1, e2, e3]
  funext (y : Cert.ReferenceIdeal.S10752x18944.Idx)
  show _ = Cert.KernelIdeal.Up.hv m c (y 0) (y 1)
  unfold Cert.KernelIdeal.Up.hv
  rw [Cert.KernelIdeal.Up.V_v0, show y = ix2 (y 0) (y 1) from eq_ix2 y]
  exact Cert.ReferenceIdeal.Up.pay1_apply _ _ _ _ (y 0) (y 1)

/-- From equal arguments the reference's row maxima are the kernel's. -/
theorem max_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (e2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (e3 : m' ((c : Thread Cert.ReferenceIdeal.nD Cert.ReferenceIdeal.τ).loc Cert.ReferenceIdeal.main_arg3) = m ((c : Thread Cert.KernelIdeal.nD Cert.KernelIdeal.τ).loc Cert.KernelIdeal.main_arg3)) :
    (Cert.ReferenceIdeal.Gen.dats m' 0 c).arrAt 5 Cert.ReferenceIdeal.cfg0.N = Cert.KernelIdeal.Up.G7 m c := by
  rw [Cert.ReferenceIdeal.Up.final_5, Cert.ReferenceIdeal.Gen.V_main_arg0, Cert.ReferenceIdeal.Gen.V_main_arg1,
    Cert.ReferenceIdeal.Gen.V_main_arg2, Cert.ReferenceIdeal.Up.V_v0, e0, e1, e2, e3]
  funext (y : Cert.ReferenceIdeal.S10752x1.Idx)
  show _ = Cert.KernelIdeal.Up.ax m c (y 0)
  unfold Cert.KernelIdeal.Up.ax
  have e : y = ix2 (y 0) 0 := (eq_ix2 y).trans (congrArg (ix2 (y 0)) (Fin.ext (Nat.lt_one_iff.mp (y 1).isLt)))
  rw [Cert.KernelIdeal.Up.V_v0, e]
  exact Cert.ReferenceIdeal.Up.pay2_apply _ _ _ _ (y 0)

/-- The algebraic claim. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨fun c => Cert.KernelIdeal.Up.G6 m c, fun c => Cert.KernelIdeal.Up.G7 m c, ?_, ?_⟩
  · refine (θ_run _ _ _).mono (fun r h c => ?_) (Cert.KernelIdeal.Value.run_blocks (F := Ideal) m g)
    obtain ⟨h6, h7, h0, h1, h2, h3⟩ := h c
    exact ⟨h6.trans (Cert.KernelIdeal.Up.final_6 m c), h7.trans (Cert.KernelIdeal.Up.final_7 m c), h0, h1, h2, h3⟩
  · refine (θ_run _ _ _).mono (fun r h c => ?_) (Cert.ReferenceIdeal.Up.run_blocks (F := Ideal) m' g')
    obtain ⟨h4, h5, h0, h1, h2, h3⟩ := h c
    obtain ⟨e0, e1, e2, e3⟩ := hargs c
    exact ⟨h4.trans (act_eq m m' c e0 e1 e2 e3), h5.trans (max_eq m m' c e0 e1 e2 e3), h0, h1, h2, h3⟩

end Cert.UpEquation
-- ==== Proof.Norm.Results.lean ====
module

public import proofs.«01_k».proof.Proof.Gen.NormIdeal.Frame
public import Idealize.ShloMosaic.Lib.Pipeline.Value

@[expose] public section

set_option maxRecDepth 16384

noncomputable section

/-! The run of the normalising call: what each point writes back, and the results after the reshapes that follow the call. -/

namespace Cert.NormIdeal.Nrm

open Idealize.ShloMosaic Idealize.ShloMosaic.TcCoe Idealize.SL.Sem Cert.NormIdeal Cert.NormIdeal.Gen
open Idealize.ShloMosaic.Pipeline (Dat)

variable {F : FTy → Type} [FloatOps F]
variable (m : (ℓ : Loc nD τ sig) → Buf (Elt F) ℓ) (ρ : Dev nD → PrngReg)

/-- What a point writes back to window 2's array. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- What a point writes back to window 3's array. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- What the lines after the call leave in `main_v3`: window 2's array with its rows split into batch and sequence. -/
theorem tail_2 (c : Dev nD) : Pipeline.afterTail₀ cfgs (dats m) 0 (V0 m) [hostOps1] c main_v3
    = shapeCast S12x896x3584 (α := Elt F .fp8e4m3) ((dats m 0 c).arrAt 2 cfg0.N) shapeCasts_S10752x3584_S12x896x3584 := by
  unfold Pipeline.afterTail₀
  after_results
  exact congrArg (fun v : S10752x3584.Idx → Elt F .fp8e4m3 => shapeCast S12x896x3584 v shapeCasts_S10752x3584_S12x896x3584)
    (Pipeline.withArrays_arr spec0 launch0.win.arr_inj c (V0 m c) (fun w => (dats m 0 c).arrAt w cfg0.N) 2)

/-- What the lines after the call leave in `main_v4`: window 3's array with its rows split into batch and sequence. -/
theorem tail_3 (c : Dev nD) : Pipeline.afterTail₀ cfgs (dats m) 0 (V0 m) [hostOps1] c main_v4
    = shapeCast S12x896 (α := Elt F .f32) ((dats m 0 c).arrAt 3 cfg0.N) shapeCasts_S10752x1_S12x896 := by
  unfold Pipeline.afterTail₀
  after_results
  exact congrArg (fun v : S10752x1.Idx → Elt F .f32 => shapeCast S12x896 v shapeCasts_S10752x1_S12x896)
    (Pipeline.withArrays_arr spec0 launch0.win.arr_inj c (V0 m c) (fun w => (dats m 0 c).arrAt w cfg0.N) 3)

/-- The run with each result named, the arguments unchanged. -/
theorem run_results : θ_run defs (onTc (τ := τ) (main (F := F))) ⟨m, fun _ => 0, ρ⟩ fun r => ∀ c : Dev nD,
      r.2.mem ((c : Thread nD τ).loc main_v3) = shapeCast S12x896x3584 (α := Elt F .fp8e4m3) ((dats m 0 c).arrAt 2 cfg0.N) shapeCasts_S10752x3584_S12x896x3584
      ∧ r.2.mem ((c : Thread nD τ).loc main_v4) = shapeCast S12x896 (α := Elt F .f32) ((dats m 0 c).arrAt 3 cfg0.N) shapeCasts_S10752x1_S12x896
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v3 (Pipeline.mem_restRefs_of main_v3 (by decide) (by decide))).trans (tail_2 m c),
      ((h c).2 main_v4 (Pipeline.mem_restRefs_of main_v4 (by decide) (by decide))).trans (tail_3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.NormIdeal.Nrm
-- ==== Proof.Quant.Scale.lean ====
module

public import Idealize.ShloMosaic.Lib.ValueIdxCore
public import Idealize.ShloMosaic.PureOps.Ideal.Laws

@[expose] public section

set_option maxRecDepth 16384

noncomputable section

/-! The power of two a row is scaled by, two ways: the kernel's search of the exponent field and the reference's logarithm. -/

namespace Cert.Quant

open Idealize.ShloMosaic

/-- The extended real a 32-bit pattern denotes. -/
abbrev fb (b : BitVec 32) : EReal := FloatOps.ofBits (F := Ideal) .f32 b

/-- The denotation, unfolded. -/
theorem fb_def (b : BitVec 32) : fb b = Ideal.ieee 8 23 b := rfl

/-- A set bit selects the first value. -/
theorem select_true {α : Type} (x y : α) : Scalar.select (BitVec.ofBool true) x y = x := if_pos rfl

/-- A clear bit selects the second value. -/
theorem select_false {α : Type} (x y : α) : Scalar.select (BitVec.ofBool false) x y = y := if_neg (by decide)

/-- A normal exponent field with a zero fraction denotes a power of two. -/
theorem fb_norm (t : ℕ) (h1 : 1 ≤ t) (h2 : t ≤ 254) :
    fb (IntOp.shli .vector (BitVec.ofNat 32 t) 23#32) = (((2 : ℝ) ^ ((t : ℤ) - 127) : ℝ) : EReal) := by
  have key : ∀ t : Fin 255, ((IntOp.shli .vector (BitVec.ofNat 32 t.val) 23#32).extractLsb' 31 1 == 1#1) = false
      ∧ ((IntOp.shli .vector (BitVec.ofNat 32 t.val) 23#32).extractLsb' 23 8).toNat = t.val
      ∧ ((IntOp.shli .vector (BitVec.ofNat 32 t.val) 23#32).extractLsb' 0 23).toNat = 0 := by decide +kernel
  obtain ⟨k1, k2, k3⟩ := key ⟨t, by omega⟩
  rw [fb_def]
  unfold Ideal.ieee
  simp only [show (8 + 23 : ℕ) = 31 from rfl, k1, k2, k3]
  rw [if_neg (by omega), if_neg (by omega)]
  refine congrArg (fun x : ℝ => (x : EReal)) ?_
  rw [if_neg (by decide)]
  have e : ((t : ℤ) - (2 ^ (8 - 1) - 1) - (23 : ℕ)) = (t : ℤ) - 127 - 23 := by norm_num
  rw [e, zpow_sub₀ (by norm_num : (2 : ℝ) ≠ 0)]
  norm_num
  ring

/-- The all-ones exponent field denotes infinity. -/
theorem fb_top : fb (IntOp.shli .vector (BitVec.ofNat 32 255) 23#32) = ⊤ := by
  have k1 : ((IntOp.shli .vector (BitVec.ofNat 32 255) 23#32).extractLsb' 31 1 == 1#1) = false := by decide +kernel
  have k2 : ((IntOp.shli .vector (BitVec.ofNat 32 255) 23#32).extractLsb' 23 8).toNat = 255 := by decide +kernel
  have k3 : ((IntOp.shli .vector (BitVec.ofNat 32 255) 23#32).extractLsb' 0 23).toNat = 0 := by decide +kernel
  rw [fb_def]
  unfold Ideal.ieee
  simp only [show (8 + 23 : ℕ) = 31 from rfl, k1, k2, k3]
  norm_num

/-- The factor that makes 448 the largest code. -/
abbrev cinv : EReal := fb 0x3B124925#32
/-- The largest finite number of the format. -/
abbrev fmax : EReal := fb 0x7F7FFFFF#32
/-- The least normal number of the format. -/
abbrev tiny : EReal := fb 0x00800000#32

theorem cinv_eq : cinv = ((9586981 * (2 : ℝ) ^ (-32 : ℤ) : ℝ) : EReal) := by
  refine (fb_def _).trans ?_
  unfold Ideal.ieee
  simp (decide := true)

theorem fmax_eq : fmax = ((16777215 * (2 : ℝ) ^ (104 : ℤ) : ℝ) : EReal) := by
  refine (fb_def _).trans ?_
  unfold Ideal.ieee
  simp (decide := true)

theorem tiny_eq : tiny = (((2 : ℝ) ^ (-126 : ℤ) : ℝ) : EReal) := by
  rw [show (-126 : ℤ) = ((1 : ℕ) : ℤ) - 127 by norm_num, ← fb_norm 1 (by norm_num) (by norm_num)]
  exact congrArg fb (by decide +kernel)

theorem two_eq : fb 0x40000000#32 = ((2 : ℝ) : EReal) := by
  rw [show (2 : ℝ) = (2 : ℝ) ^ (((128 : ℕ) : ℤ) - 127) by norm_num, ← fb_norm 128 (by norm_num) (by norm_num)]
  exact congrArg fb (by decide +kernel)

theorem one_eq : fb 0x3F800000#32 = ((1 : ℝ) : EReal) := by
  rw [show (1 : ℝ) = (2 : ℝ) ^ (((127 : ℕ) : ℤ) - 127) by norm_num, ← fb_norm 127 (by norm_num) (by norm_num)]
  exact congrArg fb (by decide +kernel)

theorem zero_eq : fb 0x00000000#32 = ((0 : ℝ) : EReal) := by
  rw [fb_def]
  unfold Ideal.ieee
  simp (decide := true)

/-- One step of the search: the trial field is kept when its number is at most `q`. -/
def step (q : EReal) (b s : BitVec 32) : BitVec 32 :=
  Scalar.select (FloatOps.cmpf (F := Ideal) (φ := .f32) .oge q (fb (IntOp.shli .vector (IntOp.addi b s) 23#32))) (IntOp.addi b s) b

/-- The search of the exponent field, from its highest bit down. -/
def field (q : EReal) : BitVec 32 :=
  step q (step q (step q (step q (step q (step q (step q (step q 0#32 128#32) 64#32) 32#32) 16#32) 8#32) 4#32) 2#32) 1#32

/-- A step halves the interval the field lies in. -/
theorem step_inv (q : EReal) (k : ℕ) (H : ∀ t : ℕ, 1 ≤ t → t ≤ 255 → (fb (IntOp.shli .vector (BitVec.ofNat 32 t) 23#32) ≤ q ↔ t ≤ k))
    (s : ℕ) (hs : 1 ≤ s) (B : BitVec 32) (hB : ∃ b, B = BitVec.ofNat 32 b ∧ b ≤ k ∧ k < b + 2 * s ∧ b + 2 * s ≤ 256) :
    ∃ b, step q B (BitVec.ofNat 32 s) = BitVec.ofNat 32 b ∧ b ≤ k ∧ k < b + s ∧ b + s ≤ 256 := by
  obtain ⟨b, rfl, h1, h2, h3⟩ := hB
  have ha : IntOp.addi (BitVec.ofNat 32 b) (BitVec.ofNat 32 s) = BitVec.ofNat 32 (b + s) := by
    show BitVec.ofNat 32 b + BitVec.ofNat 32 s = _
    rw [BitVec.ofNat_add]
  have hc : FloatOps.cmpf (F := Ideal) (φ := .f32) .oge q (fb (IntOp.shli .vector (BitVec.ofNat 32 (b + s)) 23#32))
      = BitVec.ofBool (decide (fb (IntOp.shli .vector (BitVec.ofNat 32 (b + s)) 23#32) ≤ q)) := rfl
  unfold step
  rw [ha, hc]
  by_cases h : b + s ≤ k
  · refine ⟨b + s, ?_, h, by omega, by omega⟩
    rw [decide_eq_true ((H _ (by omega) (by omega)).2 h)]
    rfl
  · refine ⟨b, ?_, h1, by omega, by omega⟩
    rw [decide_eq_false (fun hh => h ((H _ (by omega) (by omega)).1 hh))]
    rfl

/-- The search finds the exponent field. -/
theorem field_eq (q : EReal) (k : ℕ) (hk : k ≤ 255)
    (H : ∀ t : ℕ, 1 ≤ t → t ≤ 255 → (fb (IntOp.shli .vector (BitVec.ofNat 32 t) 23#32) ≤ q ↔ t ≤ k)) :
    field q = BitVec.ofNat 32 k := by
  obtain ⟨b, e, h1, h2, _⟩ := step_inv q k H 1 (by norm_num) _ (step_inv q k H 2 (by norm_num) _ (step_inv q k H 4 (by norm_num) _
    (step_inv q k H 8 (by norm_num) _ (step_inv q k H 16 (by norm_num) _ (step_inv q k H 32 (by norm_num) _
    (step_inv q k H 64 (by norm_num) _ (step_inv q k H 128 (by norm_num) 0#32 ⟨0, rfl, by omega, by omega, by omega⟩)))))))
  obtain rfl : b = k := by omega
  exact e

/-- The kernel's exponent of the row scale, from the row maximum. -/
def kexp (a : EReal) : BitVec 32 :=
  let b : BitVec 32 := Scalar.select (FloatOps.cmpf (F := Ideal) (φ := .f32) .ogt a fmax) 255#32 (field (a * cinv))
  Scalar.select (IntOp.ori (IntOp.cmpi .eq b 0#32) (IntOp.cmpi .eq b 255#32)) 0#32 (IntOp.subi b 126#32)

/-- The kernel's row scale. -/
def kscale (a : EReal) : EReal := fb (IntOp.shli .vector (IntOp.addi (kexp a) 127#32) 23#32)

/-- The kernel's inverse row scale. -/
def kinv (a : EReal) : EReal := fb (IntOp.shli .vector (IntOp.subi 127#32 (kexp a)) 23#32)

/-- The reference's exponent of the row scale, from the row maximum. -/
def rexp (a : EReal) : EReal :=
  Scalar.select (IntOp.ori (FloatOps.cmpf (F := Ideal) (φ := .f32) .olt (a * cinv) tiny) (FloatOps.cmpf (F := Ideal) (φ := .f32) .ogt a fmax))
    (fb 0x00000000#32)
    (Ideal.liftRound Int.floor (Ideal.div (Ideal.log (a * cinv)) (Ideal.log (fb 0x40000000#32))) + fb 0x3F800000#32)

/-- The reference's row scale. -/
def rscale (a : EReal) : EReal := Ideal.exp2 (rexp a)

/-- The reference's inverse row scale. -/
def rinv (a : EReal) : EReal := Ideal.exp2 (fb 0x00000000#32 - rexp a)

/-- A power of two is at most `r` exactly when its exponent is at most the floor of `r`'s logarithm. -/
theorem le_floor (r : ℝ) (hr : 0 < r) (n : ℤ) : (2 : ℝ) ^ n ≤ r ↔ n ≤ ⌊Real.log r / Real.log 2⌋ := by
  rw [Int.le_floor, le_div_iff₀ (Real.log_pos (by norm_num)), ← Real.log_zpow, Real.log_le_log_iff (by positivity) hr]

/-- The three cases: the exponent is zero on both sides, or a field within the normal range. -/
theorem cases (a : EReal) : (kexp a = 0#32 ∧ rexp a = ((0 : ℝ) : EReal))
    ∨ ∃ k : ℕ, 1 ≤ k ∧ k ≤ 246 ∧ kexp a = BitVec.ofNat 32 k - 126#32 ∧ rexp a = ((((k : ℤ) - 126 : ℤ) : ℝ) : EReal) := by
  have hgt : FloatOps.cmpf (F := Ideal) (φ := .f32) .ogt a fmax = BitVec.ofBool (decide (fmax < a)) := rfl
  have hlt : FloatOps.cmpf (F := Ideal) (φ := .f32) .olt (a * cinv) tiny = BitVec.ofBool (decide (a * cinv < tiny)) := rfl
  unfold kexp rexp
  simp only [hgt, hlt]
  by_cases ha : fmax < a
  · left
    rw [decide_eq_true ha]
    refine ⟨by rw [select_true]; rfl, ?_⟩
    rw [← zero_eq]
    cases decide (a * cinv < tiny) <;> rfl
  rw [decide_eq_false ha]
  by_cases hq : a * cinv < tiny
  · left
    rw [decide_eq_true hq]
    have hf : field (a * cinv) = BitVec.ofNat 32 0 := by
      refine field_eq _ 0 (by norm_num) fun t h1 h2 => ⟨fun h => ?_, fun h => by omega⟩
      exfalso
      refine absurd (lt_of_le_of_lt h hq) (not_lt.2 ?_)
      rw [tiny_eq]
      by_cases h3 : t = 255
      · subst h3; rw [fb_top]; exact le_top
      · rw [fb_norm t h1 (by omega), EReal.coe_le_coe_iff]
        exact zpow_le_zpow_right₀ (by norm_num) (by omega)
    refine ⟨?_, ?_⟩
    · rw [hf]; rfl
    · rw [← zero_eq]; rfl
  right
  rw [decide_eq_false hq]
  obtain ⟨x, rfl⟩ : ∃ x : ℝ, a = (x : EReal) := by
    induction a with
    | bot =>
      exfalso; apply hq
      rw [cinv_eq, tiny_eq, EReal.bot_mul_coe_of_pos (by positivity)]
      exact EReal.bot_lt_coe _
    | top => exfalso; apply ha; rw [fmax_eq]; exact EReal.coe_lt_top _
    | coe x => exact ⟨x, rfl⟩
  have hx : x ≤ 16777215 * (2 : ℝ) ^ (104 : ℤ) := by
    rw [fmax_eq] at ha; exact EReal.coe_le_coe_iff.1 (not_lt.1 ha)
  rw [cinv_eq] at hq ⊢
  rw [← EReal.coe_mul] at hq ⊢
  set r : ℝ := x * (9586981 * (2 : ℝ) ^ (-32 : ℤ)) with hr
  have hr1 : (2 : ℝ) ^ (-126 : ℤ) ≤ r := by
    rw [tiny_eq] at hq; exact EReal.coe_le_coe_iff.1 (not_lt.1 hq)
  have hr2 : r < (2 : ℝ) ^ (120 : ℤ) := by
    rw [hr]
    refine lt_of_le_of_lt (mul_le_mul_of_nonneg_right hx (by positivity)) ?_
    norm_num
  have hr0 : 0 < r := lt_of_lt_of_le (by positivity) hr1
  have hL := le_floor r hr0
  set L : ℤ := ⌊Real.log r / Real.log 2⌋ with hLdef
  have he1 : -126 ≤ L := (hL _).1 hr1
  have he2 : L < 120 := not_le.1 fun h => not_le.2 hr2 ((hL _).2 h)
  obtain ⟨k, hk⟩ : ∃ k : ℕ, (k : ℤ) = L + 127 := ⟨(L + 127).toNat, by omega⟩
  have hf : field (r : EReal) = BitVec.ofNat 32 k := by
    refine field_eq _ k (by omega) fun t h1 h2 => ?_
    by_cases h3 : t = 255
    · subst h3; rw [fb_top]
      exact ⟨fun h => absurd (top_le_iff.1 h) (EReal.coe_ne_top _), fun h => by omega⟩
    · rw [fb_norm t h1 (by omega), EReal.coe_le_coe_iff]
      rw [hL]; omega
  refine ⟨k, by omega, by omega, ?_, ?_⟩
  · rw [hf]
    have key : ∀ k : Fin 255, 1 ≤ k.val → Scalar.select (IntOp.ori (IntOp.cmpi .eq (Scalar.select (BitVec.ofBool false) 255#32 (BitVec.ofNat 32 k.val)) 0#32)
        (IntOp.cmpi .eq (Scalar.select (BitVec.ofBool false) 255#32 (BitVec.ofNat 32 k.val)) 255#32)) 0#32
        (IntOp.subi (Scalar.select (BitVec.ofBool false) 255#32 (BitVec.ofNat 32 k.val)) 126#32) = BitVec.ofNat 32 k.val - 126#32 := by
      decide +kernel
    exact key ⟨k, by omega⟩ (by show 1 ≤ k; omega)
  · show (Ideal.liftRound Int.floor (Ideal.div (Ideal.log (r : EReal)) (Ideal.log (fb 0x40000000#32))) + fb 0x3F800000#32 : EReal) = _
    rw [two_eq, one_eq]
    have l1 : Ideal.log (r : EReal) = ((Real.log r : ℝ) : EReal) := if_neg (not_le.2 hr0)
    have l2 : Ideal.log ((2 : ℝ) : EReal) = ((Real.log 2 : ℝ) : EReal) := if_neg (by norm_num)
    have hl : Real.log 2 ≠ 0 := (Real.log_pos (by norm_num)).ne'
    have hd : Ideal.div ((Real.log r : ℝ) : EReal) ((Real.log 2 : ℝ) : EReal) = ((Real.log r / Real.log 2 : ℝ) : EReal) := by
      unfold Ideal.div
      rw [if_neg (by rw [← EReal.coe_zero, EReal.coe_eq_coe_iff]; exact hl), ← EReal.coe_inv, ← EReal.coe_mul]
      rfl
    rw [l1, l2, hd]
    show (((L : ℝ) : EReal) + ((1 : ℝ) : EReal)) = _
    rw [← EReal.coe_add]
    congr 1
    rw [show ((k : ℤ) - 126 : ℤ) = L + 1 by omega]
    push_cast; rfl

/-- The two row scales agree. -/
theorem scale_eq (a : EReal) : kscale a = rscale a := by
  unfold kscale rscale
  rcases cases a with ⟨h1, h2⟩ | ⟨k, hk1, hk2, h1, h2⟩
  · rw [h1, h2]
    refine (fb_norm 127 (by norm_num) (by norm_num)).trans ?_
    show _ = ((Real.rpow 2 0 : ℝ) : EReal)
    rw [show Real.rpow 2 0 = 1 from Real.rpow_zero 2]; norm_num
  · rw [h1, h2]
    have : IntOp.addi (BitVec.ofNat 32 k - 126#32) 127#32 = BitVec.ofNat 32 (k + 1) := by
      show BitVec.ofNat 32 k - 126#32 + 127#32 = _
      apply BitVec.eq_of_toNat_eq; simp; omega
    rw [this, fb_norm (k + 1) (by omega) (by omega)]
    show _ = ((Real.rpow 2 _ : ℝ) : EReal)
    rw [show Real.rpow 2 (((k : ℤ) - 126 : ℤ) : ℝ) = (2 : ℝ) ^ ((k : ℤ) - 126 : ℤ) from Real.rpow_intCast 2 _]
    congr 2; push_cast; ring

/-- The two inverse row scales agree. -/
theorem inv_eq (a : EReal) : kinv a = rinv a := by
  unfold kinv rinv
  rw [zero_eq]
  rcases cases a with ⟨h1, h2⟩ | ⟨k, hk1, hk2, h1, h2⟩
  · rw [h1, h2]
    refine (fb_norm 127 (by norm_num) (by norm_num)).trans ?_
    rw [← EReal.coe_sub]
    show _ = ((Real.rpow 2 (0 - 0) : ℝ) : EReal)
    rw [sub_zero, show Real.rpow 2 0 = 1 from Real.rpow_zero 2]; norm_num
  · rw [h1, h2]
    have : IntOp.subi 127#32 (BitVec.ofNat 32 k - 126#32) = BitVec.ofNat 32 (253 - k) := by
      show 127#32 - (BitVec.ofNat 32 k - 126#32) = _
      apply BitVec.eq_of_toNat_eq; simp; omega
    rw [this, fb_norm (253 - k) (by omega) (by omega), ← EReal.coe_sub]
    show _ = ((Real.rpow 2 _ : ℝ) : EReal)
    rw [show (0 - ((((k : ℤ) - 126 : ℤ) : ℝ))) = ((126 - (k : ℤ) : ℤ) : ℝ) by push_cast; ring,
      show Real.rpow 2 ((126 - (k : ℤ) : ℤ) : ℝ) = (2 : ℝ) ^ (126 - (k : ℤ) : ℤ) from Real.rpow_intCast 2 _]
    congr 2; omega

end Cert.Quant
-- ==== Proof.Norm.Spec.lean ====
module

public import proofs.«01_k».proof.Proof.Quant.Scale
public import proofs.«01_k».proof.Proof.Up.Spec

@[expose] public section

noncomputable section

/-! The mathematics of the normalised rows and of their codes, index by index, over the extended reals. -/

namespace Cert.Quant

open Idealize.ShloMosaic Idealize.ShloMosaic.ValueIdx

/-- The code of a value under an inverse scale: the product, cut off at 448 on both sides. -/
def code (v s : EReal) : EReal :=
  FloatOps.minimumf (F := Ideal) (φ := .f32) (fb 0x43E00000#32) (FloatOps.maximumf (F := Ideal) (φ := .f32) (fb 0xC3E00000#32) (v * s))

/-- A normalised value: the row's entry over the root of the row's mean square, times the gain. -/
def xn {M : Nat} (X : (⟨2, ![M, 3584]⟩ : Shape).Idx → EReal) (g : (⟨2, ![1, 3584]⟩ : Shape).Idx → EReal) (r : Fin M) (j : Fin 3584) : EReal :=
  X (ix2 r j) * Ideal.rsqrt (Ideal.div (∑ k : Fin 3584, X (ix2 r k) * X (ix2 r k)) (fb 0x45600000#32) + fb 0x3727C5AC#32) * g (ix2 0 j)

/-- The largest magnitude of a normalised row. -/
@[irreducible] def nmax {M : Nat} (X : (⟨2, ![M, 3584]⟩ : Shape).Idx → EReal) (g : (⟨2, ![1, 3584]⟩ : Shape).Idx → EReal) (r : Fin M) : EReal :=
  Finset.univ.sup fun j : Fin 3584 => Up.mag (xn X g r j)

end Cert.Quant
-- ==== Proof.Norm.Block.lean ====
module

public import proofs.«01_k».proof.Proof.Gen.NormIdeal.Skeleton
public import proofs.«01_k».proof.Proof.Norm.Spec

@[expose] public section

set_option maxRecDepth 16384

noncomputable section

/-! What one grid step of the kernel computes, index by index. -/

namespace Cert.NormIdeal.Nrm

open Idealize.ShloMosaic Idealize.ShloMosaic.ValueIdx Cert.NormIdeal Cert.NormIdeal.Gen Cert.Quant

/-- A column spread over the columns of its rows. -/
theorem rows_apply (v : FVec Ideal S256x1 .f32) (p : Fin 256) (q : Fin 3584) :
    (broadcastTo S256x3584 v broadcasts_S256x1_S256x3584 : FVec Ideal S256x3584 .f32) (ix2 p q) = v (ix2 p 0) :=
  broadcastTo_apply v _ (ix2 p q) (ix2 p 0) fun a => match a with
    | ⟨0, _⟩ => by show _ = if (256 : ℕ) = 1 then 0 else _; rw [if_neg (by decide)]; rfl
    | ⟨1, _⟩ => by rw [if_pos (by rfl)]; rfl

/-- A row spread over the rows. -/
theorem cols_apply (v : FVec Ideal S1x3584 .f32) (p : Fin 256) (q : Fin 3584) :
    (broadcastTo S256x3584 v broadcasts_S1x3584_S256x3584 : FVec Ideal S256x3584 .f32) (ix2 p q) = v (ix2 0 q) :=
  broadcastTo_apply v _ (ix2 p q) (ix2 0 q) fun a => match a with
    | ⟨0, _⟩ => by rw [if_pos (by rfl)]; rfl
    | ⟨1, _⟩ => by show _ = if (3584 : ℕ) = 1 then 0 else _; rw [if_neg (by decide)]; rfl

/-- The row maximum of the magnitudes, as a column. -/
theorem rowmax_apply (v : FVec Ideal S256x3584 .f32) (p : Fin 256) :
    (shapeCast S256x1 (multiReduction .maximumf [1] S256 (absf v) 0xFF800000#32 reduces_S256x3584_S256 (.inl rfl) rfl)
      shapeCasts_S256_S256x1 : FVec Ideal S256x1 .f32) (ix2 p 0) = Finset.univ.sup fun q : Fin 3584 => Up.mag (v (ix2 p q)) := by
  rw [shapeCast_apply _ _ (ix2 p 0) (fun a => match a with | ⟨0, _⟩ => p) (by rw [Shape.rowMajor_val_one, Shape.rowMajor_val_two]; simp [ix2])]
  refine (Ideal.multiReduction_maximumf_single _ _ _ _ _ _).trans ?_
  rw [show (FloatOps.ofBits .f32 0xFF800000#32 : Ideal .f32) = ⊥ from Up.ofBits_bot]
  refine Finset.fold_congr fun q _ => ?_
  refine congrArg (absf v) (Shape.idx_ext₂ rfl rfl)

/-- The row sum, as a column. -/
theorem rowsum_apply (v : FVec Ideal S256x3584 .f32) (p : Fin 256) :
    (shapeCast S256x1 (multiReduction .add [1] S256 v 0x00000000#32 reduces_S256x3584_S256 (.inl rfl) rfl)
      shapeCasts_S256_S256x1 : FVec Ideal S256x1 .f32) (ix2 p 0) = ∑ q : Fin 3584, v (ix2 p q) := by
  rw [shapeCast_apply _ _ (ix2 p 0) (fun a => match a with | ⟨0, _⟩ => p) (by rw [Shape.rowMajor_val_one, Shape.rowMajor_val_two]; simp [ix2])]
  refine (Ideal.multiReduction_add_single _ _ _ _ _ _).trans ?_
  refine Finset.sum_congr rfl fun q _ => ?_
  refine congrArg v (Shape.idx_ext₂ rfl rfl)

/-- The root of the mean square, on a row sum. -/
theorem root_at (v : FVec Ideal S256x1 .f32) (i : S256x1.Idx) :
    (rsqrt (addf (divf v (broadcast S256x1 (Scalar.ofBits .f32 0x45600000#32))) (broadcast S256x1 (Scalar.ofBits .f32 0x3727C5AC#32))) : FVec Ideal S256x1 .f32) i
      = Ideal.rsqrt (Ideal.div (v i) (fb 0x45600000#32) + fb 0x3727C5AC#32) := rfl

/-- The squares. -/
theorem sq_at (v : FVec Ideal S256x3584 .bf16) (i : S256x3584.Idx) :
    (mulf (extf .f32 v bitsLt_bf16_f32) (extf .f32 v bitsLt_bf16_f32) : FVec Ideal S256x3584 .f32) i = v i * v i := rfl

/-- Two products in a row. -/
theorem mul_at (v : FVec Ideal S256x3584 .bf16) (s t : FVec Ideal S256x3584 .f32) (i : S256x3584.Idx) :
    (mulf (mulf (extf .f32 v bitsLt_bf16_f32) s) t : FVec Ideal S256x3584 .f32) i = v i * s i * t i := rfl

/-- The normalised rows. -/
theorem pay4_apply (x : Vec Ideal S256x3584 .bf16) (g : Vec Ideal S1x3584 .f32) (p : Fin 256) (q : Fin 3584) :
    Gen.k0_pay4 x g (ix2 p q) = xn x g p q := by
  unfold Gen.k0_pay4 xn
  simp only [shapeCast_self]
  refine (mul_at _ _ _ _).trans ?_
  refine congrArg₂ (· * ·) (congrArg (x (ix2 p q) * ·) ?_) (cols_apply g p q)
  refine (rows_apply _ p q).trans ?_
  refine (root_at _ _).trans ?_
  refine congrArg (fun s : EReal => Ideal.rsqrt (Ideal.div s (fb 0x45600000#32) + fb 0x3727C5AC#32)) ?_
  refine (rowsum_apply _ p).trans ?_
  exact Finset.sum_congr rfl fun k _ => sq_at x (ix2 p k)

/-- The row maxima. -/
theorem pay5_apply (x : Vec Ideal S256x3584 .bf16) (g : Vec Ideal S1x3584 .f32) (p : Fin 256) :
    Gen.k0_pay5 x g (ix2 p 0) = nmax x g p := by
  unfold Gen.k0_pay5
  refine (rowmax_apply _ p).trans ?_
  unfold nmax
  simp only [pay4_apply]

/-- The search's first part. -/
theorem pay7_apply (x : Vec Ideal S256x3584 .bf16) (g : Vec Ideal S1x3584 .f32) (i : S256x1.Idx) :
    Gen.k0_pay7 x g i = step (Gen.k0_pay6 x g i) (step (Gen.k0_pay6 x g i) 0#32 128#32) 64#32 := rfl

/-- The search's last part, with the cap for a maximum beyond the finite numbers. -/
theorem pay10_apply (a q : FVec Ideal S256x1 .f32) (b t : IVec S256x1 32) (c : IVec S256x1 1) (i : S256x1.Idx) :
    Gen.k0_pay10 a q b t c i = Scalar.select (FloatOps.cmpf (F := Ideal) (φ := .f32) .ogt (a i) fmax) 255#32
      (step (q i) (step (q i) (step (q i) (step (q i) (step (q i) (Scalar.select (c i) (t i) (b i)) 16#32) 8#32) 4#32) 2#32) 1#32) := rfl

/-- The exponent of the row scale. -/
theorem pay1_apply (x : Vec Ideal S256x3584 .bf16) (g : Vec Ideal S1x3584 .f32) (i : S256x1.Idx) :
    Gen.k0_pay1 (Gen.k0_pay10 (Gen.k0_pay5 x g) (Gen.k0_pay6 x g) (Gen.k0_pay7 x g) (Gen.k0_pay8 x g) (Gen.k0_pay9 x g))
      (Gen.k0_pay11 (Gen.k0_pay5 x g) (Gen.k0_pay6 x g) (Gen.k0_pay7 x g) (Gen.k0_pay8 x g) (Gen.k0_pay9 x g)) 126#32 i
      = kexp (Gen.k0_pay5 x g i) := by
  have h : Gen.k0_pay10 (Gen.k0_pay5 x g) (Gen.k0_pay6 x g) (Gen.k0_pay7 x g) (Gen.k0_pay8 x g) (Gen.k0_pay9 x g) i
      = Scalar.select (FloatOps.cmpf (F := Ideal) (φ := .f32) .ogt (Gen.k0_pay5 x g i) fmax) 255#32 (field (Gen.k0_pay5 x g i * cinv)) := by
    rw [pay10_apply, show Scalar.select (Gen.k0_pay9 x g i) (Gen.k0_pay8 x g i) (Gen.k0_pay7 x g i)
      = step (Gen.k0_pay6 x g i) (Gen.k0_pay7 x g i) 32#32 from rfl, pay7_apply]
    rfl
  unfold kexp
  dsimp only
  rw [← h]
  rfl

/-- The row scales. -/
theorem scale_apply (x : Vec Ideal S256x3584 .bf16) (g : Vec Ideal S1x3584 .f32) (p : Fin 256) :
    Gen.k0_pay2 (F := Ideal) (Gen.k0_pay10 (Gen.k0_pay5 x g) (Gen.k0_pay6 x g) (Gen.k0_pay7 x g) (Gen.k0_pay8 x g) (Gen.k0_pay9 x g))
      (Gen.k0_pay11 (Gen.k0_pay5 x g) (Gen.k0_pay6 x g) (Gen.k0_pay7 x g) (Gen.k0_pay8 x g) (Gen.k0_pay9 x g)) 126#32 (ix2 p 0)
      = kscale (nmax x g p) := by
  rw [← pay5_apply]
  unfold kscale
  rw [← pay1_apply]
  rfl

/-- The cut-off product, entry by entry. -/
theorem code_at (v : FVec Ideal S256x3584 .f32) (s : FVec Ideal S256x3584 .f32) (i : S256x3584.Idx) :
    (truncf .fp8e4m3 (minimumf (broadcast S256x3584 (Scalar.ofBits .f32 0x43E00000#32)) (maximumf (broadcast S256x3584 (Scalar.ofBits .f32 0xC3E00000#32)) (mulf v s))) bitsLt_fp8e4m3_f32
      : FVec Ideal S256x3584 .fp8e4m3) i = code (v i) (s i) := rfl

/-- The codes. -/
theorem codes_apply (x : Vec Ideal S256x3584 .bf16) (g : Vec Ideal S1x3584 .f32) (p : Fin 256) (q : Fin 3584) :
    Gen.k0_pay3 (Gen.k0_pay4 x g) (Gen.k0_pay10 (Gen.k0_pay5 x g) (Gen.k0_pay6 x g) (Gen.k0_pay7 x g) (Gen.k0_pay8 x g) (Gen.k0_pay9 x g))
      (Gen.k0_pay11 (Gen.k0_pay5 x g) (Gen.k0_pay6 x g) (Gen.k0_pay7 x g) (Gen.k0_pay8 x g) (Gen.k0_pay9 x g)) 126#32 (ix2 p q)
      = code (xn x g p q) (kinv (nmax x g p)) := by
  unfold Gen.k0_pay3
  refine (code_at _ _ _).trans (congrArg₂ code (pay4_apply x g p q) ?_)
  refine (rows_apply _ p q).trans ?_
  rw [← pay5_apply]
  unfold kinv
  rw [← pay1_apply]
  rfl

end Cert.NormIdeal.Nrm
-- ==== Proof.Norm.Arrays.lean ====
module

public import proofs.«01_k».proof.Proof.Norm.Results
public import Idealize.ShloMosaic.Lib.ValueIdx
public import proofs.«01_k».proof.Proof.Norm.Block

@[expose] public section

set_option maxRecDepth 16384

noncomputable section

/-! The two arrays after the run of the normalising call: the codes and the row scales, as functions of the arguments. -/

namespace Cert.NormIdeal.Nrm

open Idealize.ShloMosaic Idealize.ShloMosaic.TcCoe Idealize.ShloMosaic.ValueIdx Idealize.SL.Sem Cert.NormIdeal Cert.NormIdeal.Gen Cert.Quant
open Idealize.ShloMosaic.Pipeline (Dat)

variable (m : (ℓ : Loc nD τ sig) → Buf (Elt Ideal) ℓ)

/-- Window 0's block at a grid point. -/
theorem index_0 : ∀ t : Fin cfg0.N, win0_0.index t 0 = t.val ∧ win0_0.index t 1 = 0 :=
  (by decide +kernel : ∀ t : Fin grid0.N, win0_0.index t 0 = t.val ∧ win0_0.index t 1 = 0)
/-- Window 1's block at a grid point. -/
theorem index_1 : ∀ t : Fin cfg0.N, win0_1.index t 0 = 0 ∧ win0_1.index t 1 = 0 :=
  (by decide +kernel : ∀ t : Fin grid0.N, win0_1.index t 0 = 0 ∧ win0_1.index t 1 = 0)
/-- Window 2's block at a grid point. -/
theorem index_2 : ∀ t : Fin cfg0.N, win0_2.index t 0 = t.val ∧ win0_2.index t 1 = 0 :=
  (by decide +kernel : ∀ t : Fin grid0.N, win0_2.index t 0 = t.val ∧ win0_2.index t 1 = 0)
/-- Window 3's block at a grid point. -/
theorem index_3 : ∀ t : Fin cfg0.N, win0_3.index t 0 = t.val ∧ win0_3.index t 1 = 0 :=
  (by decide +kernel : ∀ t : Fin grid0.N, win0_3.index t 0 = t.val ∧ win0_3.index t 1 = 0)

/-- The row strip's row `p` at a grid point. -/
abbrev row (t : Fin cfg0.N) (p : Fin 256) : Fin 10752 :=
  ⟨256 * t.val + p.val, by have := lt_of_lt_of_eq t.isLt (show cfg0.N = 42 from N_0); omega⟩

/-- The rows of the input, as the call finds them. -/
abbrev X (c : Dev nD) : Vec Ideal S10752x3584 .bf16 := V m c main_v0

/-- The gain, as the call finds it. -/
abbrev gain (c : Dev nD) : Vec Ideal S1x3584 .f32 := V m c main_v1

/-- The input's block: a strip of 256 rows. -/
theorem iblk_0 (c : Dev nD) (t : Fin cfg0.N) (p : Fin 256) (q : Fin 3584) :
    (iblk m c 0 t : Vec Ideal S256x3584 .bf16) (ix2 p q) = X m c (ix2 (row t p) q) := by
  obtain ⟨i0, i1⟩ := index_0 t
  unfold iblk
  rw [View.read_apply]
  show V m c main_v0 _ = _
  refine congrArg _ (Shape.idx_ext₂ ?_ ?_)
  · show win0_0.index t 0 * 256 + 1 * p.val = 256 * t.val + p.val
    rw [i0]; omega
  · show win0_0.index t 1 * 3584 + 1 * q.val = q.val
    rw [i1]; omega

/-- The gain's block: all of it. -/
theorem iblk_1 (c : Dev nD) (t : Fin cfg0.N) (p : Fin 1) (q : Fin 3584) :
    (iblk m c 1 t : Vec Ideal S1x3584 .f32) (ix2 p q) = gain m c (ix2 p q) := by
  obtain ⟨i0, i1⟩ := index_1 t
  unfold iblk
  rw [View.read_apply]
  show V m c main_v1 _ = _
  refine congrArg _ (Shape.idx_ext₂ ?_ ?_)
  · show win0_1.index t 0 * 1 + 1 * p.val = p.val
    rw [i0]; omega
  · show win0_1.index t 1 * 3584 + 1 * q.val = q.val
    rw [i1]; omega

/-- The normalised rows of a strip are those of the whole input. -/
theorem xn_block (c : Dev nD) (t : Fin cfg0.N) (p : Fin 256) (q : Fin 3584) :
    xn (iblk m c 0 t : Vec Ideal S256x3584 .bf16) (iblk m c 1 t : Vec Ideal S1x3584 .f32) p q = xn (X m c) (gain m c) (row t p) q := by
  unfold xn
  simp only [iblk_0 m c t, iblk_1 m c t]

/-- So are their largest magnitudes. -/
theorem nmax_block (c : Dev nD) (t : Fin cfg0.N) (p : Fin 256) :
    nmax (iblk m c 0 t : Vec Ideal S256x3584 .bf16) (iblk m c 1 t : Vec Ideal S1x3584 .f32) p = nmax (X m c) (gain m c) (row t p) := by
  unfold nmax
  simp only [xn_block m c t]

/-- The offset of a whole-block access. -/
theorem hz : (![0, 0] : Fin 2 → Nat) = fun _ => 0 := funext fun a => by fin_cases a <;> rfl

/-- The code of an entry. -/
def cv (c : Dev nD) (r : Fin 10752) (j : Fin 3584) : EReal := code (xn (X m c) (gain m c) r j) (rinv (nmax (X m c) (gain m c) r))

/-- The scale of a row. -/
def sv (c : Dev nD) (r : Fin 10752) : EReal := rscale (nmax (X m c) (gain m c) r)

/-- The codes a grid step leaves. -/
theorem out_2 (c : Dev nD) (t : Fin cfg0.N) (p : Fin 256) (q : Fin 3584) :
    (out0_2 (iblk m c 0 t) (iblk m c 1 t) : Vec Ideal S256x3584 .fp8e4m3) (ix2 p q) = cv m c (row t p) q := by
  unfold out0_2 k0_pay18 k0_pay17 k0_pay16 k0_pay15 k0_pay14 k0_pay13 k0_pay12
  rw [View.canon_unit_zero hz, View.ld_unit_zero (S := S256x3584) hz, View.ld_unit_zero (S := S1x3584) hz]
  refine (codes_apply _ _ p q).trans ?_
  rw [inv_eq, xn_block, nmax_block]
  rfl

/-- The row scales a grid step leaves. -/
theorem out_3 (c : Dev nD) (t : Fin cfg0.N) (p : Fin 256) :
    (out0_3 (iblk m c 0 t) (iblk m c 1 t) : Vec Ideal S256x1 .f32) (ix2 p 0) = sv m c (row t p) := by
  unfold out0_3 k0_pay18 k0_pay17 k0_pay16 k0_pay15 k0_pay14 k0_pay13 k0_pay12
  rw [View.canon_unit_zero hz, View.ld_unit_zero (S := S256x3584) hz, View.ld_unit_zero (S := S1x3584) hz]
  refine (scale_apply _ _ p).trans ?_
  rw [scale_eq, nmax_block]
  rfl

/-- The array of codes. -/
abbrev G2 (c : Dev nD) : Buf (Elt Ideal) ((c : Thread nD τ).loc main_v2_0) := fun i => cv m c (i 0) (i 1)

/-- The array of row scales. -/
abbrev G3 (c : Dev nD) : Buf (Elt Ideal) ((c : Thread nD τ).loc main_v2_1) := fun i => sv m c (i 0)

/-- What any point writes back to the array of codes is its block of `G2`. -/
theorem flushed_2 (c : Dev nD) (t : Fin cfg0.N) (_ : (cfg0.win 2).flush t = true) :
    (dats m 0 c).flushed 2 t = ((cfg0.win 2).blk t).view.read (Elt Ideal) (G2 m c) := by
  obtain ⟨i0, i1⟩ := index_2 t
  refine (flushed2 m c t).trans ?_
  have hs := out_2 m c t
  generalize (out0_2 (iblk m c 0 t) (iblk m c 1 t) : Vec Ideal S256x3584 .fp8e4m3) = o at hs ⊢
  funext (y : S256x3584.Idx)
  rw [View.read_apply]
  have e : (y : S256x3584.Idx) = ix2 (y 0) (y 1) := eq_ix2 y
  show o y = cv m c _ _
  rw [e]
  refine (hs (y 0) (y 1)).trans (congrArg₂ (cv m c) (Fin.ext ?_) (Fin.ext ?_))
  · show 256 * t.val + (y 0).val = win0_2.index t 0 * 256 + 1 * (y 0).val
    rw [i0]; omega
  · show (y 1).val = win0_2.index t 1 * 3584 + 1 * (y 1).val
    rw [i1]; omega

/-- What any point writes back to the array of scales is its block of `G3`. -/
theorem flushed_3 (c : Dev nD) (t : Fin cfg0.N) (_ : (cfg0.win 3).flush t = true) :
    (dats m 0 c).flushed 3 t = ((cfg0.win 3).blk t).view.read (Elt Ideal) (G3 m c) := by
  obtain ⟨i0, i1⟩ := index_3 t
  refine (flushed3 m c t).trans ?_
  have hs := out_3 m c t
  generalize (out0_3 (iblk m c 0 t) (iblk m c 1 t) : Vec Ideal S256x1 .f32) = o at hs ⊢
  funext (y : S256x1.Idx)
  rw [View.read_apply]
  have e : (y : S256x1.Idx) = ix2 (y 0) 0 := by
    refine (eq_ix2 y).trans (congrArg (ix2 (y 0)) (Fin.ext ?_))
    have := (y 1).isLt
    show (y 1).val = 0
    exact Nat.lt_one_iff.mp this
  show o y = sv m c _
  rw [e]
  refine (hs (y 0)).trans (congrArg (sv m c) (Fin.ext ?_))
  show 256 * t.val + (y 0).val = win0_3.index t 0 * 256 + 1 * (y 0).val
  rw [i0]; omega

/-- The array of codes after the run. -/
theorem final_2 (c : Dev nD) : (dats m 0 c).arrAt 2 cfg0.N = G2 m c :=
  (dats m 0 c).arrAt_eq_of_cover 2 (G2 m c) (flushed_2 m c) fun i => by
    have h0 : (i 0 : Nat) < 10752 := (i 0).isLt
    have h1 : (i 1 : Nat) < 3584 := (i 1).isLt
    have hlt : (i 0 : Nat) / 256 < cfg0.N := by rw [show cfg0.N = 42 from N_0]; omega
    refine ⟨⟨(i 0 : Nat) / 256, hlt⟩, flush0_2 _, ?_⟩
    obtain ⟨i0, i1⟩ := index_2 ⟨(i 0 : Nat) / 256, hlt⟩
    show i ∈ ((View.whole main_v2_0).slice (win0_2.rect ⟨(i 0 : Nat) / 256, hlt⟩)).set
    rw [View.set_slice_whole, Rect.mem_set_unit]
    intro a
    match a with
    | ⟨0, _⟩ =>
      show win0_2.index _ 0 * 256 ≤ (i 0 : Nat) ∧ (i 0 : Nat) < win0_2.index _ 0 * 256 + 256
      rw [i0]; dsimp only; omega
    | ⟨1, _⟩ =>
      show win0_2.index _ 1 * 3584 ≤ (i 1 : Nat) ∧ (i 1 : Nat) < win0_2.index _ 1 * 3584 + 3584
      rw [i1]; dsimp only; omega

/-- The array of scales after the run. -/
theorem final_3 (c : Dev nD) : (dats m 0 c).arrAt 3 cfg0.N = G3 m c :=
  (dats m 0 c).arrAt_eq_of_cover 3 (G3 m c) (flushed_3 m c) fun i => by
    have h0 : (i 0 : Nat) < 10752 := (i 0).isLt
    have h1 : (i 1 : Nat) < 1 := (i 1).isLt
    have hlt : (i 0 : Nat) / 256 < cfg0.N := by rw [show cfg0.N = 42 from N_0]; omega
    refine ⟨⟨(i 0 : Nat) / 256, hlt⟩, flush0_3 _, ?_⟩
    obtain ⟨i0, i1⟩ := index_3 ⟨(i 0 : Nat) / 256, hlt⟩
    show i ∈ ((View.whole main_v2_1).slice (win0_3.rect ⟨(i 0 : Nat) / 256, hlt⟩)).set
    rw [View.set_slice_whole, Rect.mem_set_unit]
    intro a
    match a with
    | ⟨0, _⟩ =>
      show win0_3.index _ 0 * 256 ≤ (i 0 : Nat) ∧ (i 0 : Nat) < win0_3.index _ 0 * 256 + 256
      rw [i0]; dsimp only; omega
    | ⟨1, _⟩ =>
      show win0_3.index _ 1 * 1 ≤ (i 1 : Nat) ∧ (i 1 : Nat) < win0_3.index _ 1 * 1 + 1
      rw [i1]; dsimp only; omega

/-- The rows the host hands over: the batch and sequence axes as one. -/
theorem V_v0 (c : Dev nD) : V m c main_v0 = shapeCast S10752x3584 (m ((c : Thread nD τ).loc main_arg0)) shapeCasts_S12x896x3584_S10752x3584 := by
  show StableHlo.after hostOps0 (fun b => m (c, b)) (Proc.devRef .tc main_v0) = _
  after_results
  rfl

/-- The gain the host hands over: the argument with a unit axis in front. -/
theorem V_v1 (c : Dev nD) : V m c main_v1 = shapeCast S1x3584 (m ((c : Thread nD τ).loc main_arg1)) shapeCasts_S3584_S1x3584 := by
  show StableHlo.after hostOps0 (fun b => m (c, b)) (Proc.devRef .tc main_v1) = _
  after_results
  rfl

end Cert.NormIdeal.Nrm
-- ==== Proof.Norm.RefArrays.lean ====
module

public import proofs.«01_k».proof.Proof.Gen.NormReferenceIdeal.Frame
public import Idealize.ShloMosaic.Lib.Pipeline.Value

@[expose] public section

set_option maxRecDepth 16384

noncomputable section

/-! The run of the normalising call's reference: its two result arrays as the body's values of the arguments. -/

namespace Cert.NormReferenceIdeal.Nrm

open Idealize.ShloMosaic Idealize.ShloMosaic.TcCoe Idealize.SL.Sem Cert.NormReferenceIdeal Cert.NormReferenceIdeal.Gen
open Idealize.ShloMosaic.Pipeline (Dat)

variable {F : FTy → Type} [FloatOps F]
variable (m : (ℓ : Loc nD τ sig) → Buf (Elt F) ℓ) (ρ : Dev nD → PrngReg)

/-- The one grid point. -/
abbrev pt : Fin cfg0.N := ⟨0, by decide⟩

/-- Window 0's block is its whole array. -/
theorem iblk_0 (c : Dev nD) : iblk m c 0 pt = V m c main_v0 := by
  have hz' : (fun a => win0_0.index pt a * main_v0.ty.shape.size a) = fun _ => 0 := funext fun a => by fin_cases a <;> decide
  exact Memref.read_access_unit_zero (Elt F) main_v0 hz' (fun a => by rw [congrFun hz' a]; simp) (V m c main_v0)

/-- Window 1's block is its whole array. -/
theorem iblk_1 (c : Dev nD) : iblk m c 1 pt = V m c main_v1 := by
  have hz' : (fun a => win0_1.index pt a * main_v1.ty.shape.size a) = fun _ => 0 := funext fun a => by fin_cases a <;> decide
  exact Memref.read_access_unit_zero (Elt F) main_v1 hz' (fun a => by rw [congrFun hz' a]; simp) (V m c main_v1)

/-- The rows the host hands over: the batch and sequence axes as one. -/
theorem V_v0 (c : Dev nD) : V m c main_v0 = shapeCast S10752x3584 (m ((c : Thread nD τ).loc main_arg0)) shapeCasts_S12x896x3584_S10752x3584 := by
  show StableHlo.after hostOps0 (fun b => m (c, b)) (Proc.devRef .tc main_v0) = _
  after_results
  rfl

/-- The gain the host hands over: the argument with a unit axis in front. -/
theorem V_v1 (c : Dev nD) : V m c main_v1 = shapeCast S1x3584 (m ((c : Thread nD τ).loc main_arg1)) shapeCasts_S3584_S1x3584 := by
  show StableHlo.after hostOps0 (fun b => m (c, b)) (Proc.devRef .tc main_v1) = _
  after_results
  rfl

/-- The offset of a whole-block access. -/
theorem hz : (![0, 0] : Fin 2 → Nat) = fun _ => 0 := funext fun a => by fin_cases a <;> rfl

/-- What the reference's body leaves for window 2. -/
theorem out_2 (x0 : Vec F S10752x3584 .bf16) (x1 : Vec F S1x3584 .f32) :
    out0_2 x0 x1 = k0_pay1 (k0_pay5 x0 x1) (Scalar.ofBits .f32 0x43E00000#32) (k0_pay6 (F := F)) := by
  unfold out0_2
  rw [View.canon_unit_zero hz, View.ld_unit_zero (S := S10752x3584) hz, View.ld_unit_zero (S := S1x3584) hz]

/-- The result array of window 2 after the run. -/
theorem final_2 (c : Dev nD) : (dats m 0 c).arrAt 2 cfg0.N
    = (k0_pay1 (k0_pay5 (V m c main_v0) (V m c main_v1)) (Scalar.ofBits .f32 0x43E00000#32) (k0_pay6 (F := F)) : Vec F S10752x3584 .fp8e4m3) := by
  have hz' : (fun a => win0_2.index pt a * main_v2_0.ty.shape.size a) = fun _ => 0 := funext fun a => by fin_cases a <;> decide
  refine (dats m 0 c).arrAt_eq_of_cover 2 _ (fun t _ => ?_) fun i => ⟨pt, by decide, ?_⟩
  · obtain rfl : t = pt := Fin.ext (by have := lt_of_lt_of_eq t.isLt (show cfg0.N = 1 from N_0); show t.val = 0; omega)
    show (cfg0.win 2).cut (grid0.coords pt) ((dats m 0 c).after 2 pt) = _
    rw [after0_2, out_2, iblk_0, iblk_1]
    exact (Memref.read_access_unit_zero (Elt F) main_v2_0 hz' (fun a => by rw [congrFun hz' a]; simp) _).symm
  · show i ∈ ((View.whole main_v2_0).slice (win0_2.rect pt)).set
    rw [View.set_slice_whole]
    exact View.mem_set_unit_zero (S := S10752x3584) hz' (fun a => by rw [congrFun hz' a]; simp) i

/-- What the reference's body leaves for window 3. -/
theorem out_3 (x0 : Vec F S10752x3584 .bf16) (x1 : Vec F S1x3584 .f32) :
    out0_3 x0 x1 = k0_pay4 x0 x1 := by
  unfold out0_3
  rw [View.canon_unit_zero hz, View.ld_unit_zero (S := S10752x3584) hz, View.ld_unit_zero (S := S1x3584) hz]

/-- The result array of window 3 after the run. -/
theorem final_3 (c : Dev nD) : (dats m 0 c).arrAt 3 cfg0.N
    = (k0_pay4 (V m c main_v0) (V m c main_v1) : Vec F S10752x1 .f32) := by
  have hz' : (fun a => win0_3.index pt a * main_v2_1.ty.shape.size a) = fun _ => 0 := funext fun a => by fin_cases a <;> decide
  refine (dats m 0 c).arrAt_eq_of_cover 3 _ (fun t _ => ?_) fun i => ⟨pt, by decide, ?_⟩
  · obtain rfl : t = pt := Fin.ext (by have := lt_of_lt_of_eq t.isLt (show cfg0.N = 1 from N_0); show t.val = 0; omega)
    show (cfg0.win 3).cut (grid0.coords pt) ((dats m 0 c).after 3 pt) = _
    rw [after0_3, out_3, iblk_0, iblk_1]
    exact (Memref.read_access_unit_zero (Elt F) main_v2_1 hz' (fun a => by rw [congrFun hz' a]; simp) _).symm
  · show i ∈ ((View.whole main_v2_1).slice (win0_3.rect pt)).set
    rw [View.set_slice_whole]
    exact View.mem_set_unit_zero (S := S10752x1) hz' (fun a => by rw [congrFun hz' a]; simp) i

/-- What the lines after the call leave in `main_v3`: window 2's array with its rows split into batch and sequence. -/
theorem tail_2 (c : Dev nD) : Pipeline.afterTail₀ cfgs (dats m) 0 (V0 m) [hostOps1] c main_v3
    = shapeCast S12x896x3584 (α := Elt F .fp8e4m3) ((dats m 0 c).arrAt 2 cfg0.N) shapeCasts_S10752x3584_S12x896x3584 := by
  unfold Pipeline.afterTail₀
  after_results
  exact congrArg (fun v : S10752x3584.Idx → Elt F .fp8e4m3 => shapeCast S12x896x3584 v shapeCasts_S10752x3584_S12x896x3584)
    (Pipeline.withArrays_arr spec0 launch0.win.arr_inj c (V0 m c) (fun w => (dats m 0 c).arrAt w cfg0.N) 2)

/-- What the lines after the call leave in `main_v4`: window 3's array with its rows split into batch and sequence. -/
theorem tail_3 (c : Dev nD) : Pipeline.afterTail₀ cfgs (dats m) 0 (V0 m) [hostOps1] c main_v4
    = shapeCast S12x896 (α := Elt F .f32) ((dats m 0 c).arrAt 3 cfg0.N) shapeCasts_S10752x1_S12x896 := by
  unfold Pipeline.afterTail₀
  after_results
  exact congrArg (fun v : S10752x1.Idx → Elt F .f32 => shapeCast S12x896 v shapeCasts_S10752x1_S12x896)
    (Pipeline.withArrays_arr spec0 launch0.win.arr_inj c (V0 m c) (fun w => (dats m 0 c).arrAt w cfg0.N) 3)

/-- The run with each result named, the arguments unchanged. -/
theorem run_results : θ_run defs (onTc (τ := τ) (main (F := F))) ⟨m, fun _ => 0, ρ⟩ fun r => ∀ c : Dev nD,
      r.2.mem ((c : Thread nD τ).loc main_v3) = shapeCast S12x896x3584 (α := Elt F .fp8e4m3) ((dats m 0 c).arrAt 2 cfg0.N) shapeCasts_S10752x3584_S12x896x3584
      ∧ r.2.mem ((c : Thread nD τ).loc main_v4) = shapeCast S12x896 (α := Elt F .f32) ((dats m 0 c).arrAt 3 cfg0.N) shapeCasts_S10752x1_S12x896
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v3 (Pipeline.mem_restRefs_of main_v3 (by decide) (by decide))).trans (tail_2 m c),
      ((h c).2 main_v4 (Pipeline.mem_restRefs_of main_v4 (by decide) (by decide))).trans (tail_3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.NormReferenceIdeal.Nrm
-- ==== Proof.Norm.RefBlock.lean ====
module

public import proofs.«01_k».proof.Proof.Gen.NormReferenceIdeal.Skeleton
public import proofs.«01_k».proof.Proof.Norm.Spec

@[expose] public section

set_option maxRecDepth 16384

noncomputable section

/-! What the reference computes, index by index. -/

namespace Cert.NormReferenceIdeal.Nrm

open Idealize.ShloMosaic Idealize.ShloMosaic.ValueIdx Cert.NormReferenceIdeal Cert.NormReferenceIdeal.Gen Cert.Quant

/-- A column spread over the columns of its rows. -/
theorem rows_apply (v : FVec Ideal S10752x1 .f32) (p : Fin 10752) (q : Fin 3584) :
    (broadcastTo S10752x3584 v broadcasts_S10752x1_S10752x3584 : FVec Ideal S10752x3584 .f32) (ix2 p q) = v (ix2 p 0) :=
  broadcastTo_apply v _ (ix2 p q) (ix2 p 0) fun a => match a with
    | ⟨0, _⟩ => by show _ = if (10752 : ℕ) = 1 then 0 else _; rw [if_neg (by decide)]; rfl
    | ⟨1, _⟩ => by rw [if_pos (by rfl)]; rfl

/-- A row spread over the rows. -/
theorem cols_apply (v : FVec Ideal S1x3584 .f32) (p : Fin 10752) (q : Fin 3584) :
    (broadcastTo S10752x3584 v broadcasts_S1x3584_S10752x3584 : FVec Ideal S10752x3584 .f32) (ix2 p q) = v (ix2 0 q) :=
  broadcastTo_apply v _ (ix2 p q) (ix2 0 q) fun a => match a with
    | ⟨0, _⟩ => by rw [if_pos (by rfl)]; rfl
    | ⟨1, _⟩ => by show _ = if (3584 : ℕ) = 1 then 0 else _; rw [if_neg (by decide)]; rfl

/-- The row maximum of the magnitudes, as a column. -/
theorem rowmax_apply (v : FVec Ideal S10752x3584 .f32) (p : Fin 10752) :
    (shapeCast S10752x1 (multiReduction .maximumf [1] S10752 (absf v) 0xFF800000#32 reduces_S10752x3584_S10752 (.inl rfl) rfl)
      shapeCasts_S10752_S10752x1 : FVec Ideal S10752x1 .f32) (ix2 p 0) = Finset.univ.sup fun q : Fin 3584 => Up.mag (v (ix2 p q)) := by
  rw [shapeCast_apply _ _ (ix2 p 0) (fun a => match a with | ⟨0, _⟩ => p) (by rw [Shape.rowMajor_val_one, Shape.rowMajor_val_two]; simp [ix2])]
  refine (Ideal.multiReduction_maximumf_single _ _ _ _ _ _).trans ?_
  rw [show (FloatOps.ofBits .f32 0xFF800000#32 : Ideal .f32) = ⊥ from Up.ofBits_bot]
  refine Finset.fold_congr fun q _ => ?_
  refine congrArg (absf v) (Shape.idx_ext₂ rfl rfl)

/-- The row sum, as a column. -/
theorem rowsum_apply (v : FVec Ideal S10752x3584 .f32) (p : Fin 10752) :
    (shapeCast S10752x1 (multiReduction .add [1] S10752 v 0x00000000#32 reduces_S10752x3584_S10752 (.inl rfl) rfl)
      shapeCasts_S10752_S10752x1 : FVec Ideal S10752x1 .f32) (ix2 p 0) = ∑ q : Fin 3584, v (ix2 p q) := by
  rw [shapeCast_apply _ _ (ix2 p 0) (fun a => match a with | ⟨0, _⟩ => p) (by rw [Shape.rowMajor_val_one, Shape.rowMajor_val_two]; simp [ix2])]
  refine (Ideal.multiReduction_add_single _ _ _ _ _ _).trans ?_
  refine Finset.sum_congr rfl fun q _ => ?_
  refine congrArg v (Shape.idx_ext₂ rfl rfl)

/-- The root of the mean square, on a row sum. -/
theorem root_at (v : FVec Ideal S10752x1 .f32) (i : S10752x1.Idx) :
    (rsqrt (addf (divf v (broadcast S10752x1 (Scalar.ofBits .f32 0x45600000#32))) (broadcast S10752x1 (Scalar.ofBits .f32 0x3727C5AC#32))) : FVec Ideal S10752x1 .f32) i
      = Ideal.rsqrt (Ideal.div (v i) (fb 0x45600000#32) + fb 0x3727C5AC#32) := rfl

/-- The squares. -/
theorem sq_at (v : FVec Ideal S10752x3584 .bf16) (i : S10752x3584.Idx) :
    (mulf (extf .f32 v bitsLt_bf16_f32) (extf .f32 v bitsLt_bf16_f32) : FVec Ideal S10752x3584 .f32) i = v i * v i := rfl

/-- Two products in a row. -/
theorem mul_at (v : FVec Ideal S10752x3584 .bf16) (s t : FVec Ideal S10752x3584 .f32) (i : S10752x3584.Idx) :
    (mulf (mulf (extf .f32 v bitsLt_bf16_f32) s) t : FVec Ideal S10752x3584 .f32) i = v i * s i * t i := rfl

/-- The normalised rows. -/
theorem pay2_apply (x : Vec Ideal S10752x3584 .bf16) (g : Vec Ideal S1x3584 .f32) (p : Fin 10752) (q : Fin 3584) :
    Gen.k0_pay2 x g (ix2 p q) = xn x g p q := by
  unfold Gen.k0_pay2 xn
  simp only [shapeCast_self]
  refine (mul_at _ _ _ _).trans ?_
  refine congrArg₂ (· * ·) (congrArg (x (ix2 p q) * ·) ?_) (cols_apply g p q)
  refine (rows_apply _ p q).trans ?_
  refine (root_at _ _).trans ?_
  refine congrArg (fun s : EReal => Ideal.rsqrt (Ideal.div s (fb 0x45600000#32) + fb 0x3727C5AC#32)) ?_
  refine (rowsum_apply _ p).trans ?_
  exact Finset.sum_congr rfl fun k _ => sq_at x (ix2 p k)

/-- The exponent of a column of row maxima. -/
theorem expo_at (a : FVec Ideal S10752x1 .f32) (i : S10752x1.Idx) :
    (select (ori (cmpf .olt (mulf a (broadcast S10752x1 (Scalar.ofBits .f32 0x3B124925#32))) (broadcast S10752x1 (Scalar.ofBits .f32 0x00800000#32)))
        (cmpf .ogt a (broadcast S10752x1 (Scalar.ofBits .f32 0x7F7FFFFF#32))))
      (broadcast S10752x1 (Scalar.ofBits .f32 0x00000000#32))
      (addf (floor (divf (log (mulf a (broadcast S10752x1 (Scalar.ofBits .f32 0x3B124925#32)))) (log (broadcast S10752x1 (Scalar.ofBits .f32 0x40000000#32)))))
        (broadcast S10752x1 (Scalar.ofBits .f32 0x3F800000#32))) : FVec Ideal S10752x1 .f32) i = rexp (a i) := rfl

/-- The exponent of the row scale. -/
theorem pay3_apply (x : Vec Ideal S10752x3584 .bf16) (g : Vec Ideal S1x3584 .f32) (p : Fin 10752) :
    Gen.k0_pay3 x g (ix2 p 0) = rexp (nmax x g p) := by
  unfold Gen.k0_pay3
  refine (expo_at _ _).trans (congrArg rexp ?_)
  refine (rowmax_apply _ p).trans ?_
  unfold nmax
  exact Finset.sup_congr rfl fun k _ => congrArg Up.mag (pay2_apply x g p k)

/-- Two to a column. -/
theorem exp2_at (a : FVec Ideal S10752x1 .f32) (i : S10752x1.Idx) : (exp2 a : FVec Ideal S10752x1 .f32) i = Ideal.exp2 (a i) := rfl

/-- Two to the opposite of a column. -/
theorem exp2_neg_at (a : FVec Ideal S10752x1 .f32) (i : S10752x1.Idx) :
    (exp2 (subf (broadcast S10752x1 (Scalar.ofBits .f32 0x00000000#32)) a) : FVec Ideal S10752x1 .f32) i = Ideal.exp2 (fb 0x00000000#32 - a i) := rfl

/-- The cut-off product, entry by entry. -/
theorem code_at (v s : FVec Ideal S10752x3584 .f32) (i : S10752x3584.Idx) :
    (truncf .fp8e4m3 (minimumf (broadcast S10752x3584 (Scalar.ofBits .f32 0x43E00000#32)) (maximumf (broadcast S10752x3584 (Scalar.ofBits .f32 0xC3E00000#32)) (mulf v s))) bitsLt_fp8e4m3_f32
      : FVec Ideal S10752x3584 .fp8e4m3) i = code (v i) (s i) := rfl

/-- The row scales. -/
theorem scale_apply (x : Vec Ideal S10752x3584 .bf16) (g : Vec Ideal S1x3584 .f32) (p : Fin 10752) :
    Gen.k0_pay4 x g (ix2 p 0) = rscale (nmax x g p) := by
  unfold Gen.k0_pay4 rscale
  exact (exp2_at _ _).trans (congrArg Ideal.exp2 (pay3_apply x g p))

/-- The codes. -/
theorem codes_apply (x : Vec Ideal S10752x3584 .bf16) (g : Vec Ideal S1x3584 .f32) (p : Fin 10752) (q : Fin 3584) :
    Gen.k0_pay1 (Gen.k0_pay5 x g) (Scalar.ofBits .f32 0x43E00000#32) (Gen.k0_pay6 (F := Ideal)) (ix2 p q)
      = code (xn x g p q) (rinv (nmax x g p)) := by
  unfold Gen.k0_pay1 Gen.k0_pay5 Gen.k0_pay6 rinv
  refine (code_at _ _ _).trans (congrArg₂ code (pay2_apply x g p q) ?_)
  refine (rows_apply _ p q).trans ?_
  exact (exp2_neg_at _ _).trans (congrArg (fun e : EReal => Ideal.exp2 (fb 0x00000000#32 - e)) (pay3_apply x g p))

end Cert.NormReferenceIdeal.Nrm
-- ==== Proof.Norm.Equation.lean ====
module

public import proofs.«01_k».proof.Defs
public import proofs.«01_k».proof.Proof.Norm.Arrays
public import proofs.«01_k».proof.Proof.Norm.RefArrays
public import proofs.«01_k».proof.Proof.Norm.RefBlock

@[expose] public section

set_option maxRecDepth 16384

noncomputable section

/-! The equation: over the extended reals the normalising call's two arrays are its reference's. -/

namespace Cert.NormEquation

open Idealize.ShloMosaic Idealize.ShloMosaic.TcCoe Idealize.ShloMosaic.ValueIdx Idealize.SL.Sem

/-- From equal arguments the reference's codes are the kernel's. -/
theorem codes_eq (m : (ℓ : Loc Cert.NormIdeal.nD Cert.NormIdeal.τ Cert.NormIdeal.sig) → Buf (Elt Ideal) ℓ)
    (m' : (ℓ : Loc Cert.NormReferenceIdeal.nD Cert.NormReferenceIdeal.τ Cert.NormReferenceIdeal.sig) → Buf (Elt Ideal) ℓ)
    (c : Dev Cert.NormIdeal.nD)
    (e0 : m' ((c : Thread Cert.NormReferenceIdeal.nD Cert.NormReferenceIdeal.τ).loc Cert.NormReferenceIdeal.main_arg0) = m ((c : Thread Cert.NormIdeal.nD Cert.NormIdeal.τ).loc Cert.NormIdeal.main_arg0))
    (e1 : m' ((c : Thread Cert.NormReferenceIdeal.nD Cert.NormReferenceIdeal.τ).loc Cert.NormReferenceIdeal.main_arg1) = m ((c : Thread Cert.NormIdeal.nD Cert.NormIdeal.τ).loc Cert.NormIdeal.main_arg1)) :
    (Cert.NormReferenceIdeal.Gen.dats m' 0 c).arrAt 2 Cert.NormReferenceIdeal.cfg0.N = Cert.NormIdeal.Nrm.G2 m c := by
  rw [Cert.NormReferenceIdeal.Nrm.final_2, Cert.NormReferenceIdeal.Nrm.V_v0, Cert.NormReferenceIdeal.Nrm.V_v1, e0, e1]
  funext (y : Cert.NormReferenceIdeal.S10752x3584.Idx)
  show _ = Cert.NormIdeal.Nrm.cv m c (y 0) (y 1)
  unfold Cert.NormIdeal.Nrm.cv Cert.NormIdeal.Nrm.X Cert.NormIdeal.Nrm.gain
  rw [Cert.NormIdeal.Nrm.V_v0, Cert.NormIdeal.Nrm.V_v1, show y = ix2 (y 0) (y 1) from eq_ix2 y]
  exact Cert.NormReferenceIdeal.Nrm.codes_apply _ _ (y 0) (y 1)

/-- From equal arguments the reference's row scales are the kernel's. -/
theorem scale_eq (m : (ℓ : Loc Cert.NormIdeal.nD Cert.NormIdeal.τ Cert.NormIdeal.sig) → Buf (Elt Ideal) ℓ)
    (m' : (ℓ : Loc Cert.NormReferenceIdeal.nD Cert.NormReferenceIdeal.τ Cert.NormReferenceIdeal.sig) → Buf (Elt Ideal) ℓ)
    (c : Dev Cert.NormIdeal.nD)
    (e0 : m' ((c : Thread Cert.NormReferenceIdeal.nD Cert.NormReferenceIdeal.τ).loc Cert.NormReferenceIdeal.main_arg0) = m ((c : Thread Cert.NormIdeal.nD Cert.NormIdeal.τ).loc Cert.NormIdeal.main_arg0))
    (e1 : m' ((c : Thread Cert.NormReferenceIdeal.nD Cert.NormReferenceIdeal.τ).loc Cert.NormReferenceIdeal.main_arg1) = m ((c : Thread Cert.NormIdeal.nD Cert.NormIdeal.τ).loc Cert.NormIdeal.main_arg1)) :
    (Cert.NormReferenceIdeal.Gen.dats m' 0 c).arrAt 3 Cert.NormReferenceIdeal.cfg0.N = Cert.NormIdeal.Nrm.G3 m c := by
  rw [Cert.NormReferenceIdeal.Nrm.final_3, Cert.NormReferenceIdeal.Nrm.V_v0, Cert.NormReferenceIdeal.Nrm.V_v1, e0, e1]
  funext (y : Cert.NormReferenceIdeal.S10752x1.Idx)
  show _ = Cert.NormIdeal.Nrm.sv m c (y 0)
  unfold Cert.NormIdeal.Nrm.sv Cert.NormIdeal.Nrm.X Cert.NormIdeal.Nrm.gain
  have e : y = ix2 (y 0) 0 := (eq_ix2 y).trans (congrArg (ix2 (y 0)) (Fin.ext (Nat.lt_one_iff.mp (y 1).isLt)))
  rw [Cert.NormIdeal.Nrm.V_v0, Cert.NormIdeal.Nrm.V_v1, e]
  exact Cert.NormReferenceIdeal.Nrm.scale_apply _ _ (y 0)

/-- The algebraic claim of the normalising call. -/
theorem algebraic : Cert.algebraic_NormIdeal_NormReferenceIdeal
    (hNormIdeal := Cert.NormIdeal.Gen.facts) (hNormReferenceIdeal := Cert.NormReferenceIdeal.Gen.facts) := by
  intro m g m' g' _ hargs
  refine ⟨fun c => shapeCast Cert.NormIdeal.S12x896x3584 (α := Elt Ideal .fp8e4m3) (Cert.NormIdeal.Nrm.G2 m c) (Cert.NormIdeal.Gen.facts.shapeCasts_S10752x3584_S12x896x3584),
    fun c => shapeCast Cert.NormIdeal.S12x896 (α := Elt Ideal .f32) (Cert.NormIdeal.Nrm.G3 m c) (Cert.NormIdeal.Gen.facts.shapeCasts_S10752x1_S12x896), ?_, ?_⟩
  · refine (θ_run _ _ _).mono (fun r h c => ?_) (Cert.NormIdeal.Nrm.run_results (F := Ideal) m g)
    obtain ⟨h2, h3, hk⟩ := h c
    exact ⟨h2.trans (congrArg (fun v : Cert.NormIdeal.S10752x3584.Idx → Elt Ideal .fp8e4m3 => shapeCast Cert.NormIdeal.S12x896x3584 v (Cert.NormIdeal.Gen.facts.shapeCasts_S10752x3584_S12x896x3584)) (Cert.NormIdeal.Nrm.final_2 m c)),
      h3.trans (congrArg (fun v : Cert.NormIdeal.S10752x1.Idx → Elt Ideal .f32 => shapeCast Cert.NormIdeal.S12x896 v (Cert.NormIdeal.Gen.facts.shapeCasts_S10752x1_S12x896)) (Cert.NormIdeal.Nrm.final_3 m c)), hk⟩
  · refine (θ_run _ _ _).mono (fun r h c => ?_) (Cert.NormReferenceIdeal.Nrm.run_results (F := Ideal) m' g')
    obtain ⟨h2, h3, hk⟩ := h c
    obtain ⟨e0, e1⟩ := hargs c
    exact ⟨h2.trans (congrArg (fun v : Cert.NormIdeal.S10752x3584.Idx → Elt Ideal .fp8e4m3 => shapeCast Cert.NormIdeal.S12x896x3584 v (Cert.NormIdeal.Gen.facts.shapeCasts_S10752x3584_S12x896x3584)) (codes_eq m m' c e0 e1)),
      h3.trans (congrArg (fun v : Cert.NormIdeal.S10752x1.Idx → Elt Ideal .f32 => shapeCast Cert.NormIdeal.S12x896 v (Cert.NormIdeal.Gen.facts.shapeCasts_S10752x1_S12x896)) (scale_eq m m' c e0 e1)), hk⟩

end Cert.NormEquation
-- ==== Proof.Down.Step.lean ====
module

public import proofs.«01_k».proof.Proof.Gen.DownIdeal.Frame
public import Idealize.ShloMosaic.Lib.Pipeline.Value

@[expose] public section

set_option maxRecDepth 16384

noncomputable section

/-! What one grid step leaves in the output buffers and in the accumulator, as the values it stores. -/

namespace Cert.DownIdeal.Dwn

open Idealize.ShloMosaic Idealize.ShloMosaic.TcCoe Idealize.SL.Sem Cert.DownIdeal Cert.DownIdeal.Gen

variable {F : FTy → Type} [FloatOps F]

/-- The offset of a whole-block access. -/
theorem hz : (![0, 0] : Fin 2 → Nat) = fun _ => 0 := funext fun a => by fin_cases a <;> rfl

/-- The scaled tile of `h`, before it is cut off. -/
def hx (x0 : Vec F S512x512 .f32) (x1 : Vec F S512x1 .f32) : FVec F S512x512 .f32 :=
  k0_pay22 x1 (k0_pay16 x1) (k0_pay17 x1) (k0_pay18 x1) k0_pay19 x0

/-- The row scales of `h`. -/
def hscale (x1 : Vec F S512x1 .f32) : FVec F S512x1 .f32 :=
  k0_pay21 x1 (k0_pay16 x1) (k0_pay17 x1) (k0_pay18 x1) k0_pay19

/-- The accumulator, one tile further. -/
def accn (x0 : Vec F S512x512 .f32) (x1 : Vec F S512x1 .f32) (x2 : Vec F S512x3584 .fp8e4m3) (a : Vec F S512x3584 .f32) : FVec F S512x3584 .f32 :=
  k0_pay3 (hx x0 x1) a x2

/-- The largest field with its cap, of the result's row maxima. -/
def yfield (s : FVec F S512x1 .f32) (x4 : Vec F S512x3584 .bf16) (a : Vec F S512x3584 .f32) (x3 : Vec F S1x3584 .f32) : IVec S512x1 32 :=
  k0_pay14 (k0_pay9 s x4 a x3) (k0_pay10 s x4 a x3) (k0_pay11 s x4 a x3) (k0_pay12 s x4 a x3) (k0_pay13 s x4 a x3)

/-- Whether that field stands for no finite normal number. -/
def yflag (s : FVec F S512x1 .f32) (x4 : Vec F S512x3584 .bf16) (a : Vec F S512x3584 .f32) (x3 : Vec F S1x3584 .f32) : IVec S512x1 1 :=
  k0_pay15 (k0_pay9 s x4 a x3) (k0_pay10 s x4 a x3) (k0_pay11 s x4 a x3) (k0_pay12 s x4 a x3) (k0_pay13 s x4 a x3)

/-- The result's rows as bf16. -/
def yout (s : FVec F S512x1 .f32) (x4 : Vec F S512x3584 .bf16) (a : Vec F S512x3584 .f32) (x3 : Vec F S1x3584 .f32) : FVec F S512x3584 .bf16 :=
  k0_pay8 s x4 a x3

/-- The codes of the result's rows. -/
def ycodes (s : FVec F S512x1 .f32) (x4 : Vec F S512x3584 .bf16) (a : Vec F S512x3584 .f32) (x3 : Vec F S1x3584 .f32) : FVec F S512x3584 .fp8e4m3 :=
  k0_pay6 (k0_pay7 s x4 a x3) (yfield s x4 a x3) (yflag s x4 a x3)

/-- The row scales of the result. -/
def yscale (s : FVec F S512x1 .f32) (x4 : Vec F S512x3584 .bf16) (a : Vec F S512x3584 .f32) (x3 : Vec F S1x3584 .f32) : FVec F S512x1 .f32 :=
  k0_pay5 (yfield s x4 a x3) (yflag s x4 a x3)

/-- The first step along a strip leaves the codes of its tile of `h`. -/
theorem out_A_5 (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S512x3584 .bf16) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x3584 .bf16) (harg9 : arg9.IsWhole) (arg10 : Memref sig .tc .vmem S512x3584 .fp8e4m3) (harg10 : arg10.IsWhole) (arg11 : Memref sig .tc .vmem S512x1 .f32) (harg11 : arg11.IsWhole) (arg12 : Memref sig .tc .vmem S512x3584 .f32) (harg12 : arg12.IsWhole) (hc0 : cond0_0 i) (hc1 : ¬cond0_1 i)
    (x0 : Vec F S512x512 .f32) (x1 : Vec F S512x1 .f32) (x2 : Vec F S512x3584 .fp8e4m3) (x3 : Vec F S1x3584 .f32) (x4 : Vec F S512x3584 .bf16) :
    out0_A_5 c i arg2 harg2 arg3 harg3 arg4 harg4 arg5 harg5 arg6 harg6 arg7 harg7 arg8 harg8 arg9 harg9 arg10 harg10 arg11 harg11 arg12 harg12 hc0 hc1 x0 x1 x2 x3 x4 = k0_pay1 (hx x0 x1) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  rw [View.canon_unit_zero hz]
  simp only [kernelRun0_A.sl.r, kernelRun0_A.sl.r_1, kernelRun0_A.sl.r_2, kernelRun0_A.sl.r_3, kernelRun0_A.sl.r_5, kernelRun0_A.sl.v95, kernelRun0_A.sl.HS0_1, View.readAt_eq_ld, View.readCov_unit_zero (S := S512x3584) _ hz, harg2.read_unread, harg3.read_unread, harg4.read_unread, harg5.read_unread, harg6.read_unread, harg12.read_unread,
    View.ld_unit_zero (S := S512x512) hz, View.ld_unit_zero (S := S512x1) hz, View.ld_unit_zero (S := S512x3584) hz,
    View.ld_unit_zero (S := S1x3584) hz]
  rfl

/-- A middle step leaves the codes of its tile of `h`. -/
theorem out_B_5 (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S512x3584 .bf16) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x3584 .bf16) (harg9 : arg9.IsWhole) (arg10 : Memref sig .tc .vmem S512x3584 .fp8e4m3) (harg10 : arg10.IsWhole) (arg11 : Memref sig .tc .vmem S512x1 .f32) (harg11 : arg11.IsWhole) (arg12 : Memref sig .tc .vmem S512x3584 .f32) (harg12 : arg12.IsWhole) (hc0 : ¬cond0_0 i) (hc1 : ¬cond0_1 i)
    (x0 : Vec F S512x512 .f32) (x1 : Vec F S512x1 .f32) (x2 : Vec F S512x3584 .fp8e4m3) (x3 : Vec F S1x3584 .f32) (x4 : Vec F S512x3584 .bf16) (xs0 : Vec F S512x3584 .f32) :
    out0_B_5 c i arg2 harg2 arg3 harg3 arg4 harg4 arg5 harg5 arg6 harg6 arg7 harg7 arg8 harg8 arg9 harg9 arg10 harg10 arg11 harg11 arg12 harg12 hc0 hc1 x0 x1 x2 x3 x4 xs0 = k0_pay1 (hx x0 x1) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 hc0 hc1 x0 x1 x2 x3 x4 xs0)]
  unfold kernelRun0_B
  dsimp only
  rw [View.canon_unit_zero hz]
  simp only [kernelRun0_B.sl.r, kernelRun0_B.sl.r_1, kernelRun0_B.sl.r_2, kernelRun0_B.sl.r_3, kernelRun0_B.sl.r_5, View.readAt_eq_ld, View.readCov_unit_zero (S := S512x3584) _ hz, harg2.read_unread, harg3.read_unread, harg4.read_unread, harg5.read_unread, harg6.read_unread, harg12.read_unread,
    View.ld_unit_zero (S := S512x512) hz, View.ld_unit_zero (S := S512x1) hz, View.ld_unit_zero (S := S512x3584) hz,
    View.ld_unit_zero (S := S1x3584) hz]
  rfl

/-- The last step along a strip leaves the codes of its tile of `h`. -/
theorem out_C_5 (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S512x3584 .bf16) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x3584 .bf16) (harg9 : arg9.IsWhole) (arg10 : Memref sig .tc .vmem S512x3584 .fp8e4m3) (harg10 : arg10.IsWhole) (arg11 : Memref sig .tc .vmem S512x1 .f32) (harg11 : arg11.IsWhole) (arg12 : Memref sig .tc .vmem S512x3584 .f32) (harg12 : arg12.IsWhole) (hc0 : ¬cond0_0 i) (hc1 : cond0_1 i)
    (x0 : Vec F S512x512 .f32) (x1 : Vec F S512x1 .f32) (x2 : Vec F S512x3584 .fp8e4m3) (x3 : Vec F S1x3584 .f32) (x4 : Vec F S512x3584 .bf16) (xs0 : Vec F S512x3584 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 x4 xs0 = k0_pay1 (hx x0 x1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 x4 xs0)]
  unfold kernelRun0_C
  dsimp only
  rw [View.canon_unit_zero hz]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.v109, kernelRun0_C.sl.HS0_1, View.readAt_eq_ld, View.readCov_unit_zero (S := S512x3584) _ hz, harg2.read_unread, harg3.read_unread, harg4.read_unread, harg5.read_unread, harg6.read_unread, harg12.read_unread,
    View.ld_unit_zero (S := S512x512) hz, View.ld_unit_zero (S := S512x1) hz, View.ld_unit_zero (S := S512x3584) hz,
    View.ld_unit_zero (S := S1x3584) hz]
  rfl

/-- The first step leaves its tile's products in the accumulator. -/
theorem sout_A (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S512x3584 .bf16) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x3584 .bf16) (harg9 : arg9.IsWhole) (arg10 : Memref sig .tc .vmem S512x3584 .fp8e4m3) (harg10 : arg10.IsWhole) (arg11 : Memref sig .tc .vmem S512x1 .f32) (harg11 : arg11.IsWhole) (arg12 : Memref sig .tc .vmem S512x3584 .f32) (harg12 : arg12.IsWhole) (hc0 : cond0_0 i) (hc1 : ¬cond0_1 i)
    (x0 : Vec F S512x512 .f32) (x1 : Vec F S512x1 .f32) (x2 : Vec F S512x3584 .fp8e4m3) (x3 : Vec F S1x3584 .f32) (x4 : Vec F S512x3584 .bf16) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 = accn x0 x1 x2 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  rw [View.canon_cons_unit_zero hz]
  simp only [kernelRun0_A.sl.r, kernelRun0_A.sl.r_1, kernelRun0_A.sl.r_2, kernelRun0_A.sl.r_3, kernelRun0_A.sl.r_5, kernelRun0_A.sl.v95, kernelRun0_A.sl.HS0_1, View.readAt_eq_ld, View.readCov_unit_zero (S := S512x3584) _ hz, harg2.read_unread, harg3.read_unread, harg4.read_unread, harg5.read_unread, harg6.read_unread, harg12.read_unread,
    View.ld_unit_zero (S := S512x512) hz, View.ld_unit_zero (S := S512x1) hz, View.ld_unit_zero (S := S512x3584) hz,
    View.ld_unit_zero (S := S1x3584) hz]
  rfl

/-- A middle step adds its tile's products to the accumulator. -/
theorem sout_B (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S512x3584 .bf16) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x3584 .bf16) (harg9 : arg9.IsWhole) (arg10 : Memref sig .tc .vmem S512x3584 .fp8e4m3) (harg10 : arg10.IsWhole) (arg11 : Memref sig .tc .vmem S512x1 .f32) (harg11 : arg11.IsWhole) (arg12 : Memref sig .tc .vmem S512x3584 .f32) (harg12 : arg12.IsWhole) (hc0 : ¬cond0_0 i) (hc1 : ¬cond0_1 i)
    (x0 : Vec F S512x512 .f32) (x1 : Vec F S512x1 .f32) (x2 : Vec F S512x3584 .fp8e4m3) (x3 : Vec F S1x3584 .f32) (x4 : Vec F S512x3584 .bf16) (xs0 : Vec F S512x3584 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 xs0 = accn x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 xs0)]
  unfold kernelRun0_B
  dsimp only
  rw [View.canon_unit_zero hz]
  simp only [kernelRun0_B.sl.r, kernelRun0_B.sl.r_1, kernelRun0_B.sl.r_2, kernelRun0_B.sl.r_3, kernelRun0_B.sl.r_5, View.readAt_eq_ld, View.readCov_unit_zero (S := S512x3584) _ hz, harg2.read_unread, harg3.read_unread, harg4.read_unread, harg5.read_unread, harg6.read_unread, harg12.read_unread,
    View.ld_unit_zero (S := S512x512) hz, View.ld_unit_zero (S := S512x1) hz, View.ld_unit_zero (S := S512x3584) hz,
    View.ld_unit_zero (S := S1x3584) hz]
  rfl

/-- The last step leaves the row scales of `h`. -/
theorem out_C_6 (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S512x3584 .bf16) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x3584 .bf16) (harg9 : arg9.IsWhole) (arg10 : Memref sig .tc .vmem S512x3584 .fp8e4m3) (harg10 : arg10.IsWhole) (arg11 : Memref sig .tc .vmem S512x1 .f32) (harg11 : arg11.IsWhole) (arg12 : Memref sig .tc .vmem S512x3584 .f32) (harg12 : arg12.IsWhole) (hc0 : ¬cond0_0 i) (hc1 : cond0_1 i)
    (x0 : Vec F S512x512 .f32) (x1 : Vec F S512x1 .f32) (x2 : Vec F S512x3584 .fp8e4m3) (x3 : Vec F S1x3584 .f32) (x4 : Vec F S512x3584 .bf16) (xs0 : Vec F S512x3584 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 xs0 = hscale x1 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 xs0)]
  unfold kernelRun0_C
  dsimp only
  rw [View.canon_unit_zero hz]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.v109, kernelRun0_C.sl.HS0_1, View.readAt_eq_ld, View.readCov_unit_zero (S := S512x3584) _ hz, harg2.read_unread, harg3.read_unread, harg4.read_unread, harg5.read_unread, harg6.read_unread, harg12.read_unread,
    View.ld_unit_zero (S := S512x512) hz, View.ld_unit_zero (S := S512x1) hz, View.ld_unit_zero (S := S512x3584) hz,
    View.ld_unit_zero (S := S1x3584) hz]
  rfl

/-- The last step leaves the result's rows. -/
theorem out_C_7 (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S512x3584 .bf16) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x3584 .bf16) (harg9 : arg9.IsWhole) (arg10 : Memref sig .tc .vmem S512x3584 .fp8e4m3) (harg10 : arg10.IsWhole) (arg11 : Memref sig .tc .vmem S512x1 .f32) (harg11 : arg11.IsWhole) (arg12 : Memref sig .tc .vmem S512x3584 .f32) (harg12 : arg12.IsWhole) (hc0 : ¬cond0_0 i) (hc1 : cond0_1 i)
    (x0 : Vec F S512x512 .f32) (x1 : Vec F S512x1 .f32) (x2 : Vec F S512x3584 .fp8e4m3) (x3 : Vec F S1x3584 .f32) (x4 : Vec F S512x3584 .bf16) (xs0 : Vec F S512x3584 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 xs0 = yout (hscale x1) x4 (accn x0 x1 x2 xs0) x3 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 xs0)]
  unfold kernelRun0_C
  dsimp only
  rw [View.canon_unit_zero hz]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.v109, kernelRun0_C.sl.HS0_1, View.readAt_eq_ld, View.readCov_unit_zero (S := S512x3584) _ hz, harg2.read_unread, harg3.read_unread, harg4.read_unread, harg5.read_unread, harg6.read_unread, harg12.read_unread,
    View.ld_unit_zero (S := S512x512) hz, View.ld_unit_zero (S := S512x1) hz, View.ld_unit_zero (S := S512x3584) hz,
    View.ld_unit_zero (S := S1x3584) hz]
  rfl

/-- The last step leaves the codes of the result's rows. -/
theorem out_C_8 (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S512x3584 .bf16) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x3584 .bf16) (harg9 : arg9.IsWhole) (arg10 : Memref sig .tc .vmem S512x3584 .fp8e4m3) (harg10 : arg10.IsWhole) (arg11 : Memref sig .tc .vmem S512x1 .f32) (harg11 : arg11.IsWhole) (arg12 : Memref sig .tc .vmem S512x3584 .f32) (harg12 : arg12.IsWhole) (hc0 : ¬cond0_0 i) (hc1 : cond0_1 i)
    (x0 : Vec F S512x512 .f32) (x1 : Vec F S512x1 .f32) (x2 : Vec F S512x3584 .fp8e4m3) (x3 : Vec F S1x3584 .f32) (x4 : Vec F S512x3584 .bf16) (xs0 : Vec F S512x3584 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 xs0 = ycodes (hscale x1) x4 (accn x0 x1 x2 xs0) x3 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 xs0)]
  unfold kernelRun0_C
  dsimp only
  rw [View.canon_unit_zero hz]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.v109, kernelRun0_C.sl.HS0_1, View.readAt_eq_ld, View.readCov_unit_zero (S := S512x3584) _ hz, harg2.read_unread, harg3.read_unread, harg4.read_unread, harg5.read_unread, harg6.read_unread, harg12.read_unread,
    View.ld_unit_zero (S := S512x512) hz, View.ld_unit_zero (S := S512x1) hz, View.ld_unit_zero (S := S512x3584) hz,
    View.ld_unit_zero (S := S1x3584) hz]
  rfl

/-- The last step leaves the row scales of the result. -/
theorem out_C_9 (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S512x3584 .bf16) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x3584 .bf16) (harg9 : arg9.IsWhole) (arg10 : Memref sig .tc .vmem S512x3584 .fp8e4m3) (harg10 : arg10.IsWhole) (arg11 : Memref sig .tc .vmem S512x1 .f32) (harg11 : arg11.IsWhole) (arg12 : Memref sig .tc .vmem S512x3584 .f32) (harg12 : arg12.IsWhole) (hc0 : ¬cond0_0 i) (hc1 : cond0_1 i)
    (x0 : Vec F S512x512 .f32) (x1 : Vec F S512x1 .f32) (x2 : Vec F S512x3584 .fp8e4m3) (x3 : Vec F S1x3584 .f32) (x4 : Vec F S512x3584 .bf16) (xs0 : Vec F S512x3584 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 xs0 = yscale (hscale x1) x4 (accn x0 x1 x2 xs0) x3 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 xs0)]
  unfold kernelRun0_C
  dsimp only
  rw [View.canon_unit_zero hz]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.v109, kernelRun0_C.sl.HS0_1, View.readAt_eq_ld, View.readCov_unit_zero (S := S512x3584) _ hz, harg2.read_unread, harg3.read_unread, harg4.read_unread, harg5.read_unread, harg6.read_unread, harg12.read_unread,
    View.ld_unit_zero (S := S512x512) hz, View.ld_unit_zero (S := S512x1) hz, View.ld_unit_zero (S := S512x3584) hz,
    View.ld_unit_zero (S := S1x3584) hz]
  rfl

end Cert.DownIdeal.Dwn
-- ==== Proof.Down.Spec.lean ====
module

public import proofs.«01_k».proof.Proof.Norm.Spec

@[expose] public section

noncomputable section

/-! The mathematics of the down projection and of its codes, index by index, over the extended reals. -/

namespace Cert.Quant

open Idealize.ShloMosaic Idealize.ShloMosaic.ValueIdx

/-- The array `h`, one value per row and hidden column. -/
abbrev AH := (⟨2, ![10752, 18944]⟩ : Shape).Idx → EReal
/-- One value per row. -/
abbrev AC := (⟨2, ![10752, 1]⟩ : Shape).Idx → EReal
/-- The weight, one value per hidden column and result column. -/
abbrev AW := (⟨2, ![18944, 3584]⟩ : Shape).Idx → EReal
/-- One value per result column. -/
abbrev AS := (⟨2, ![1, 3584]⟩ : Shape).Idx → EReal
/-- One value per row and result column. -/
abbrev AX := (⟨2, ![10752, 3584]⟩ : Shape).Idx → EReal

/-- The code of an entry of `h`. -/
def hcode (H : AH) (A : AC) (r : Fin 10752) (k : Fin 18944) : EReal := code (H (ix2 r k)) (rinv (A (ix2 r 0)))

/-- One product of the contraction, nothing beyond the last hidden column. -/
def prod (H : AH) (A : AC) (W : AW) (r : Fin 10752) (j : Fin 3584) (k : Nat) : EReal :=
  if h : k < 18944 then hcode H A r ⟨k, h⟩ * W (ix2 ⟨k, h⟩ j) else 0

/-- The contraction over the first `n` hidden columns. -/
def dotTo (H : AH) (A : AC) (W : AW) (r : Fin 10752) (j : Fin 3584) (n : Nat) : EReal :=
  ∑ k ∈ Finset.range n, prod H A W r j k

/-- Over no column it is zero. -/
theorem dotTo_zero (H : AH) (A : AC) (W : AW) (r : Fin 10752) (j : Fin 3584) : dotTo H A W r j 0 = 0 := Finset.sum_range_zero _

/-- One more tile of 512 hidden columns. -/
theorem dotTo_step (H : AH) (A : AC) (W : AW) (r : Fin 10752) (j : Fin 3584) (b : Nat) (hb : b < 37) :
    dotTo H A W r j (512 * (b + 1)) = dotTo H A W r j (512 * b)
      + ∑ k : Fin 512, hcode H A r ⟨512 * b + k.val, by omega⟩ * W (ix2 ⟨512 * b + k.val, by omega⟩ j) := by
  unfold dotTo
  rw [show 512 * (b + 1) = 512 * b + 512 by ring, Finset.sum_range_add]
  refine congrArg (_ + ·) ?_
  rw [Finset.sum_range]
  refine Finset.sum_congr rfl fun k _ => ?_
  unfold prod
  rw [dif_pos (show 512 * b + k.val < 18944 by omega)]

/-- The whole contraction. -/
theorem dotTo_all (H : AH) (A : AC) (W : AW) (r : Fin 10752) (j : Fin 3584) :
    dotTo H A W r j 18944 = ∑ k : Fin 18944, hcode H A r k * W (ix2 k j) := by
  unfold dotTo
  rw [Finset.sum_range]
  refine Finset.sum_congr rfl fun k _ => ?_
  unfold prod
  rw [dif_pos k.isLt]

/-- A value of the result: the residual and the scaled contraction. -/
def yv (H : AH) (A : AC) (W : AW) (S : AS) (X : AX) (r : Fin 10752) (j : Fin 3584) : EReal :=
  X (ix2 r j) + dotTo H A W r j 18944 * rscale (A (ix2 r 0)) * S (ix2 0 j)

/-- The largest magnitude of a row of the result. -/
@[irreducible] def ymax (H : AH) (A : AC) (W : AW) (S : AS) (X : AX) (r : Fin 10752) : EReal :=
  Finset.univ.sup fun j : Fin 3584 => Up.mag (yv H A W S X r j)

/-- The scale of a row of `h`. -/
def hsv (A : AC) (r : Fin 10752) : EReal := rscale (A (ix2 r 0))

/-- The code of a value of the result. -/
def ycv (H : AH) (A : AC) (W : AW) (S : AS) (X : AX) (r : Fin 10752) (j : Fin 3584) : EReal :=
  code (yv H A W S X r j) (rinv (ymax H A W S X r))

/-- The scale of a row of the result. -/
def ysv (H : AH) (A : AC) (W : AW) (S : AS) (X : AX) (r : Fin 10752) : EReal := rscale (ymax H A W S X r)

end Cert.Quant
-- ==== Proof.Down.Block.lean ====
module

public import proofs.«01_k».proof.Proof.Down.Step
public import proofs.«01_k».proof.Proof.Down.Spec

@[expose] public section

set_option maxRecDepth 16384

noncomputable section

/-! What one grid step of the kernel computes, index by index. -/

namespace Cert.DownIdeal.Dwn

open Idealize.ShloMosaic Idealize.ShloMosaic.ValueIdx Cert.DownIdeal Cert.DownIdeal.Gen Cert.Quant

/-- The matrix product at a row and a column is the sum over the contracted axis. -/
theorem dot_apply (x : Vec Ideal S512x512 .fp8e4m3) (w : Vec Ideal S512x3584 .fp8e4m3) (p : Fin 512) (q : Fin 3584) :
    (matmul (φ₁ := .fp8e4m3) (φ₂ := .fp8e4m3) dot_S512x512_S512x3584_S512x3584_1_0_0_1_n_n none x w (constant S512x3584 .f32 0x00000000#32) : FVec Ideal S512x3584 .f32) (ix2 p q)
      = ∑ k : Fin 512, x (ix2 p k) * w (ix2 k q) := by
  rw [matmul, Ideal.matmul_def, Ideal.matmul]
  rw [show (constant S512x3584 .f32 0x00000000#32 : FVec Ideal S512x3584 .f32) (ix2 p q) = 0 from Up.ofBits_zero, zero_add]
  rw [← Equiv.sum_comp (contrEquiv1 dot_S512x512_S512x3584_S512x3584_1_0_0_1_n_n 512 rfl rfl).symm]
  refine Finset.sum_congr rfl fun k _ => ?_
  have hk := contrEquiv1_symm_val dot_S512x512_S512x3584_S512x3584_1_0_0_1_n_n 512 rfl rfl k
  have e1 : DotDims.lhsIdx dot_S512x512_S512x3584_S512x3584_1_0_0_1_n_n (ix2 p q) ((contrEquiv1 dot_S512x512_S512x3584_S512x3584_1_0_0_1_n_n 512 rfl rfl).symm k) = ix2 p k := by
    refine Shape.idx_ext₂ ?_ ?_
    · simp [DotDims.lhsIdx, dot_S512x512_S512x3584_S512x3584_1_0_0_1_n_n]; rfl
    · refine Eq.trans ?_ hk
      simp [DotDims.lhsIdx, dot_S512x512_S512x3584_S512x3584_1_0_0_1_n_n]; rfl
  have e2 : DotDims.rhsIdx dot_S512x512_S512x3584_S512x3584_1_0_0_1_n_n (ix2 p q) ((contrEquiv1 dot_S512x512_S512x3584_S512x3584_1_0_0_1_n_n 512 rfl rfl).symm k) = ix2 k q := by
    refine Shape.idx_ext₂ ?_ ?_
    · refine Eq.trans ?_ hk
      simp [DotDims.rhsIdx, dot_S512x512_S512x3584_S512x3584_1_0_0_1_n_n]; rfl
    · simp [DotDims.rhsIdx, dot_S512x512_S512x3584_S512x3584_1_0_0_1_n_n]; rfl
  rw [e1, e2]

/-- A column spread over the columns of its rows. -/
theorem rows_apply (v : FVec Ideal S512x1 .f32) (p : Fin 512) (q : Fin 3584) :
    (broadcastTo S512x3584 v broadcasts_S512x1_S512x3584 : FVec Ideal S512x3584 .f32) (ix2 p q) = v (ix2 p 0) :=
  broadcastTo_apply v _ (ix2 p q) (ix2 p 0) fun a => match a with
    | ⟨0, _⟩ => by show _ = if (512 : ℕ) = 1 then 0 else _; rw [if_neg (by decide)]; rfl
    | ⟨1, _⟩ => by rw [if_pos (by rfl)]; rfl

/-- A column spread over the columns of its rows. -/
theorem rowsH_apply (v : FVec Ideal S512x1 .f32) (p : Fin 512) (q : Fin 512) :
    (broadcastTo S512x512 v broadcasts_S512x1_S512x512 : FVec Ideal S512x512 .f32) (ix2 p q) = v (ix2 p 0) :=
  broadcastTo_apply v _ (ix2 p q) (ix2 p 0) fun a => match a with
    | ⟨0, _⟩ => by show _ = if (512 : ℕ) = 1 then 0 else _; rw [if_neg (by decide)]; rfl
    | ⟨1, _⟩ => by rw [if_pos (by rfl)]; rfl

/-- A row spread over the rows. -/
theorem cols_apply (v : FVec Ideal S1x3584 .f32) (p : Fin 512) (q : Fin 3584) :
    (broadcastTo S512x3584 v broadcasts_S1x3584_S512x3584 : FVec Ideal S512x3584 .f32) (ix2 p q) = v (ix2 0 q) :=
  broadcastTo_apply v _ (ix2 p q) (ix2 0 q) fun a => match a with
    | ⟨0, _⟩ => by rw [if_pos (by rfl)]; rfl
    | ⟨1, _⟩ => by show _ = if (3584 : ℕ) = 1 then 0 else _; rw [if_neg (by decide)]; rfl

/-- The row maximum of the magnitudes, as a column. -/
theorem rowmax_apply (v : FVec Ideal S512x3584 .f32) (p : Fin 512) :
    (shapeCast S512x1 (multiReduction .maximumf [1] S512 (absf v) 0xFF800000#32 reduces_S512x3584_S512 (.inl rfl) rfl)
      shapeCasts_S512_S512x1 : FVec Ideal S512x1 .f32) (ix2 p 0) = Finset.univ.sup fun q : Fin 3584 => Up.mag (v (ix2 p q)) := by
  rw [shapeCast_apply _ _ (ix2 p 0) (fun a => match a with | ⟨0, _⟩ => p) (by rw [Shape.rowMajor_val_one, Shape.rowMajor_val_two]; simp [ix2])]
  refine (Ideal.multiReduction_maximumf_single _ _ _ _ _ _).trans ?_
  rw [show (FloatOps.ofBits .f32 0xFF800000#32 : Ideal .f32) = ⊥ from Up.ofBits_bot]
  refine Finset.fold_congr fun q _ => ?_
  refine congrArg (absf v) (Shape.idx_ext₂ rfl rfl)

/-- The cut-off product, entry by entry. -/
theorem code_at (v s : FVec Ideal S512x3584 .f32) (i : S512x3584.Idx) :
    (truncf .fp8e4m3 (minimumf (broadcast S512x3584 (Scalar.ofBits .f32 0x43E00000#32)) (maximumf (broadcast S512x3584 (Scalar.ofBits .f32 0xC3E00000#32)) (mulf v s))) bitsLt_fp8e4m3_f32
      : FVec Ideal S512x3584 .fp8e4m3) i = code (v i) (s i) := rfl

/-- The cut-off of a product, entry by entry. -/
theorem clip_at (v s : FVec Ideal S512x512 .f32) (i : S512x512.Idx) : Gen.k0_pay1 (mulf v s) i = code (v i) (s i) := rfl

/-- Two products in a row, added to the residual. -/
theorem res_at (x : FVec Ideal S512x3584 .bf16) (v s t : FVec Ideal S512x3584 .f32) (i : S512x3584.Idx) :
    (addf (extf .f32 x bitsLt_bf16_f32) (mulf (mulf v s) t) : FVec Ideal S512x3584 .f32) i = x i + v i * s i * t i := rfl

/-- A sum, entry by entry. -/
theorem add_at (v s : FVec Ideal S512x3584 .f32) (i : S512x3584.Idx) :
    (addf v s : FVec Ideal S512x3584 .f32) i = v i + s i := rfl

/-- The search's first part, for `h`. -/
theorem pay17_apply (a : Vec Ideal S512x1 .f32) (i : S512x1.Idx) :
    Gen.k0_pay17 a i = step (a i * cinv) (step (a i * cinv) (step (a i * cinv) (step (a i * cinv) (step (a i * cinv) 0#32 128#32) 64#32) 32#32) 16#32) 8#32 := rfl

/-- The search's last part and the exponent, for `h`. -/
theorem pay20_at (a q : FVec Ideal S512x1 .f32) (b : IVec S512x1 32) (i : S512x1.Idx) :
    Gen.k0_pay20 a q b (addi b (broadcast S512x1 4#32)) Gen.k0_pay19 i
      = (let f : BitVec 32 := Scalar.select (FloatOps.cmpf (F := Ideal) (φ := .f32) .ogt (a i) fmax) 255#32
          (step (q i) (step (q i) (step (q i) (b i) 4#32) 2#32) 1#32)
        Scalar.select (IntOp.ori (IntOp.cmpi .eq f 0#32) (IntOp.cmpi .eq f 255#32)) 0#32 (IntOp.subi f 126#32)) := rfl

/-- The exponent of the row scale of `h`. -/
theorem hexp_apply (a : Vec Ideal S512x1 .f32) (i : S512x1.Idx) :
    Gen.k0_pay20 a (Gen.k0_pay16 a) (Gen.k0_pay17 a) (Gen.k0_pay18 a) (Gen.k0_pay19) i = kexp (a i) := by
  unfold Gen.k0_pay18
  refine (pay20_at a (Gen.k0_pay16 a) (Gen.k0_pay17 a) i).trans ?_
  rw [pay17_apply]
  rfl

/-- The row scales of `h`. -/
theorem hscale_apply (a : Vec Ideal S512x1 .f32) (i : S512x1.Idx) : hscale a i = kscale (a i) := by
  unfold hscale kscale
  rw [← hexp_apply]
  rfl

/-- The codes of a tile of `h`. -/
theorem codes_apply (x0 : Vec Ideal S512x512 .f32) (x1 : Vec Ideal S512x1 .f32) (p q : Fin 512) :
    Gen.k0_pay1 (hx x0 x1) (ix2 p q) = code (x0 (ix2 p q)) (kinv (x1 (ix2 p 0))) := by
  unfold hx Gen.k0_pay22
  refine (clip_at _ _ _).trans (congrArg (code (x0 (ix2 p q))) ?_)
  refine (rowsH_apply _ p q).trans ?_
  unfold kinv
  rw [← hexp_apply]
  rfl

/-- The accumulator starts at zero. -/
theorem pay2_apply (i : S512x3584.Idx) : (Gen.k0_pay2 : FVec Ideal S512x3584 .f32) i = 0 := by
  unfold Gen.k0_pay2
  rw [shapeCast_self]
  exact Up.ofBits_zero

/-- A step adds the tile's products to the accumulator. -/
theorem accn_apply (x0 : Vec Ideal S512x512 .f32) (x1 : Vec Ideal S512x1 .f32) (x2 : Vec Ideal S512x3584 .fp8e4m3) (a : Vec Ideal S512x3584 .f32)
    (p : Fin 512) (q : Fin 3584) :
    accn x0 x1 x2 a (ix2 p q) = a (ix2 p q) + ∑ k : Fin 512, code (x0 (ix2 p k)) (kinv (x1 (ix2 p 0))) * x2 (ix2 k q) := by
  unfold accn Gen.k0_pay3
  rw [shapeCast_self]
  refine (add_at _ _ _).trans (congrArg (a (ix2 p q) + ·) ?_)
  refine (dot_apply _ x2 p q).trans ?_
  exact Finset.sum_congr rfl fun k _ => congrArg (· * x2 (ix2 k q)) (codes_apply x0 x1 p k)

/-- The result, not yet rounded. -/
theorem pay7_apply (s : FVec Ideal S512x1 .f32) (x4 : Vec Ideal S512x3584 .bf16) (a : Vec Ideal S512x3584 .f32) (x3 : Vec Ideal S1x3584 .f32)
    (p : Fin 512) (q : Fin 3584) :
    Gen.k0_pay7 s x4 a x3 (ix2 p q) = x4 (ix2 p q) + a (ix2 p q) * s (ix2 p 0) * x3 (ix2 0 q) := by
  unfold Gen.k0_pay7
  simp only [shapeCast_self]
  refine (res_at _ _ _ _ _).trans ?_
  exact congrArg (x4 (ix2 p q) + ·) (congrArg₂ (· * ·) (congrArg (a (ix2 p q) * ·) (rows_apply s p q)) (cols_apply x3 p q))

/-- The result as bf16 is the same number. -/
theorem yout_apply (s : FVec Ideal S512x1 .f32) (x4 : Vec Ideal S512x3584 .bf16) (a : Vec Ideal S512x3584 .f32) (x3 : Vec Ideal S1x3584 .f32)
    (i : S512x3584.Idx) : yout s x4 a x3 i = Gen.k0_pay7 s x4 a x3 i := by
  unfold yout Gen.k0_pay8
  generalize Gen.k0_pay7 s x4 a x3 = y
  rfl

/-- The result's row maxima. -/
theorem pay9_apply (s : FVec Ideal S512x1 .f32) (x4 : Vec Ideal S512x3584 .bf16) (a : Vec Ideal S512x3584 .f32) (x3 : Vec Ideal S1x3584 .f32)
    (p : Fin 512) :
    Gen.k0_pay9 s x4 a x3 (ix2 p 0) = Finset.univ.sup fun q : Fin 3584 => Up.mag (Gen.k0_pay7 s x4 a x3 (ix2 p q)) := by
  unfold Gen.k0_pay9
  exact rowmax_apply _ p

/-- The row maxima over the largest code. -/
theorem pay10_apply (s : FVec Ideal S512x1 .f32) (x4 : Vec Ideal S512x3584 .bf16) (a : Vec Ideal S512x3584 .f32) (x3 : Vec Ideal S1x3584 .f32)
    (i : S512x1.Idx) : Gen.k0_pay10 s x4 a x3 i = Gen.k0_pay9 s x4 a x3 i * cinv := by
  unfold Gen.k0_pay10
  generalize Gen.k0_pay9 s x4 a x3 = y
  rfl

/-- The search's first part, for the result. -/
theorem pay11_apply (s : FVec Ideal S512x1 .f32) (x4 : Vec Ideal S512x3584 .bf16) (a : Vec Ideal S512x3584 .f32) (x3 : Vec Ideal S1x3584 .f32)
    (i : S512x1.Idx) :
    Gen.k0_pay11 s x4 a x3 i = step (Gen.k0_pay10 s x4 a x3 i) (step (Gen.k0_pay10 s x4 a x3 i) 0#32 128#32) 64#32 := by
  unfold Gen.k0_pay11
  generalize Gen.k0_pay10 s x4 a x3 = q
  rfl

/-- The next step of the search. -/
theorem pay13_apply (s : FVec Ideal S512x1 .f32) (x4 : Vec Ideal S512x3584 .bf16) (a : Vec Ideal S512x3584 .f32) (x3 : Vec Ideal S1x3584 .f32)
    (i : S512x1.Idx) :
    Scalar.select (FloatOps.cmpf (F := Ideal) (φ := .f32) .oge (Gen.k0_pay10 s x4 a x3 i) (Gen.k0_pay13 s x4 a x3 i)) (Gen.k0_pay12 s x4 a x3 i) (Gen.k0_pay11 s x4 a x3 i)
      = step (Gen.k0_pay10 s x4 a x3 i) (Gen.k0_pay11 s x4 a x3 i) 32#32 := by
  unfold Gen.k0_pay13 Gen.k0_pay12
  generalize Gen.k0_pay11 s x4 a x3 = b
  generalize Gen.k0_pay10 s x4 a x3 = q
  rfl

/-- The search's last part, with the cap for a maximum beyond the finite numbers. -/
theorem pay14_at (a q : FVec Ideal S512x1 .f32) (b t : IVec S512x1 32) (n : FVec Ideal S512x1 .f32) (i : S512x1.Idx) :
    Gen.k0_pay14 a q b t n i = Scalar.select (FloatOps.cmpf (F := Ideal) (φ := .f32) .ogt (a i) fmax) 255#32
      (step (q i) (step (q i) (step (q i) (step (q i) (step (q i)
        (Scalar.select (FloatOps.cmpf (F := Ideal) (φ := .f32) .oge (q i) (n i)) (t i) (b i)) 16#32) 8#32) 4#32) 2#32) 1#32) := rfl

/-- The field the search finds. -/
theorem yfield_apply (s : FVec Ideal S512x1 .f32) (x4 : Vec Ideal S512x3584 .bf16) (a : Vec Ideal S512x3584 .f32) (x3 : Vec Ideal S1x3584 .f32)
    (i : S512x1.Idx) :
    yfield s x4 a x3 i = Scalar.select (FloatOps.cmpf (F := Ideal) (φ := .f32) .ogt (Gen.k0_pay9 s x4 a x3 i) fmax) 255#32 (field (Gen.k0_pay9 s x4 a x3 i * cinv)) := by
  unfold yfield
  rw [pay14_at, pay13_apply, pay11_apply, pay10_apply]
  generalize Gen.k0_pay9 s x4 a x3 i = y
  rfl

/-- The flag, from the field. -/
theorem yflag_eq (s : FVec Ideal S512x1 .f32) (x4 : Vec Ideal S512x3584 .bf16) (a : Vec Ideal S512x3584 .f32) (x3 : Vec Ideal S1x3584 .f32) :
    yflag s x4 a x3 = ori (cmpi .eq (yfield s x4 a x3) (broadcast S512x1 0#32)) (cmpi .eq (yfield s x4 a x3) (broadcast S512x1 255#32)) := by
  unfold yflag yfield Gen.k0_pay15
  rfl

/-- The exponent of the result's row scale. -/
theorem yexp_apply (s : FVec Ideal S512x1 .f32) (x4 : Vec Ideal S512x3584 .bf16) (a : Vec Ideal S512x3584 .f32) (x3 : Vec Ideal S1x3584 .f32)
    (i : S512x1.Idx) :
    Gen.k0_pay4 (yfield s x4 a x3) (yflag s x4 a x3) i = kexp (Gen.k0_pay9 s x4 a x3 i) := by
  unfold kexp
  dsimp only
  rw [← yfield_apply, yflag_eq]
  generalize yfield s x4 a x3 = f
  rfl

/-- The result's row scales. -/
theorem yscale_apply (s : FVec Ideal S512x1 .f32) (x4 : Vec Ideal S512x3584 .bf16) (a : Vec Ideal S512x3584 .f32) (x3 : Vec Ideal S1x3584 .f32)
    (i : S512x1.Idx) : yscale s x4 a x3 i = kscale (Gen.k0_pay9 s x4 a x3 i) := by
  unfold yscale kscale Gen.k0_pay5
  rw [← yexp_apply]
  generalize Gen.k0_pay4 (yfield s x4 a x3) (yflag s x4 a x3) = f
  rfl

/-- The result's codes. -/
theorem ycodes_apply (s : FVec Ideal S512x1 .f32) (x4 : Vec Ideal S512x3584 .bf16) (a : Vec Ideal S512x3584 .f32) (x3 : Vec Ideal S1x3584 .f32)
    (p : Fin 512) (q : Fin 3584) :
    ycodes s x4 a x3 (ix2 p q) = code (Gen.k0_pay7 s x4 a x3 (ix2 p q)) (kinv (Gen.k0_pay9 s x4 a x3 (ix2 p 0))) := by
  unfold ycodes Gen.k0_pay6
  refine (code_at _ _ _).trans (congrArg (code _) ?_)
  refine (rows_apply _ p q).trans ?_
  unfold kinv
  rw [← yexp_apply]
  generalize Gen.k0_pay4 (yfield s x4 a x3) (yflag s x4 a x3) = f
  rfl

end Cert.DownIdeal.Dwn
-- ==== Proof.Down.Results.lean ====
module

public import proofs.«01_k».proof.Proof.Gen.DownIdeal.Frame
public import Idealize.ShloMosaic.Lib.Pipeline.Value

@[expose] public section

set_option maxRecDepth 16384

noncomputable section

/-! The run of the down projection: what each point writes back, and the results after the reshapes that follow the call. -/

namespace Cert.DownIdeal.Dwn

open Idealize.ShloMosaic Idealize.ShloMosaic.TcCoe Idealize.SL.Sem Cert.DownIdeal Cert.DownIdeal.Gen
open Idealize.ShloMosaic.Pipeline (Dat)

variable {F : FTy → Type} [FloatOps F]
variable (m : (ℓ : Loc nD τ sig) → Buf (Elt F) ℓ) (ρ : Dev nD → PrngReg)

/-- What a point writes back to window 5's array. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- What a point writes back to window 6's array. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- What a point writes back to window 7's array. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- What a point writes back to window 8's array. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- What a point writes back to window 9's array. -/
theorem flushed9 (c : Dev nD) (t : Fin cfg0.N) :
    (dats m 0 c).flushed 9 t = (cfg0.win 9).cut (grid0.coords t) ((outsAt0 m c t.val t.isLt).2.2.2.2.1) := by
  show (cfg0.win 9).cut (grid0.coords t) ((dats m 0 c).after 9 t) = _
  rw [after0_9]

/-- What the lines after the call leave in `main_v3`: window 7's array with its rows split into batch and sequence. -/
theorem tail_7 (c : Dev nD) : Pipeline.afterTail₀ cfgs (dats m) 0 (V0 m) [hostOps1] c main_v3
    = shapeCast S12x896x3584 (α := Elt F .bf16) ((dats m 0 c).arrAt 7 cfg0.N) shapeCasts_S10752x3584_S12x896x3584 := by
  unfold Pipeline.afterTail₀
  after_results
  exact congrArg (fun v : S10752x3584.Idx → Elt F .bf16 => shapeCast S12x896x3584 v shapeCasts_S10752x3584_S12x896x3584)
    (Pipeline.withArrays_arr spec0 launch0.win.arr_inj c (V0 m c) (fun w => (dats m 0 c).arrAt w cfg0.N) 7)

/-- What the lines after the call leave in `main_v4`: window 5's array with its rows split into batch and sequence. -/
theorem tail_5 (c : Dev nD) : Pipeline.afterTail₀ cfgs (dats m) 0 (V0 m) [hostOps1] c main_v4
    = shapeCast S12x896x18944 (α := Elt F .fp8e4m3) ((dats m 0 c).arrAt 5 cfg0.N) shapeCasts_S10752x18944_S12x896x18944 := by
  unfold Pipeline.afterTail₀
  after_results
  exact congrArg (fun v : S10752x18944.Idx → Elt F .fp8e4m3 => shapeCast S12x896x18944 v shapeCasts_S10752x18944_S12x896x18944)
    (Pipeline.withArrays_arr spec0 launch0.win.arr_inj c (V0 m c) (fun w => (dats m 0 c).arrAt w cfg0.N) 5)

/-- What the lines after the call leave in `main_v5`: window 6's array with its rows split into batch and sequence. -/
theorem tail_6 (c : Dev nD) : Pipeline.afterTail₀ cfgs (dats m) 0 (V0 m) [hostOps1] c main_v5
    = shapeCast S12x896 (α := Elt F .f32) ((dats m 0 c).arrAt 6 cfg0.N) shapeCasts_S10752x1_S12x896 := by
  unfold Pipeline.afterTail₀
  after_results
  exact congrArg (fun v : S10752x1.Idx → Elt F .f32 => shapeCast S12x896 v shapeCasts_S10752x1_S12x896)
    (Pipeline.withArrays_arr spec0 launch0.win.arr_inj c (V0 m c) (fun w => (dats m 0 c).arrAt w cfg0.N) 6)

/-- What the lines after the call leave in `main_v6`: window 8's array with its rows split into batch and sequence. -/
theorem tail_8 (c : Dev nD) : Pipeline.afterTail₀ cfgs (dats m) 0 (V0 m) [hostOps1] c main_v6
    = shapeCast S12x896x3584 (α := Elt F .fp8e4m3) ((dats m 0 c).arrAt 8 cfg0.N) shapeCasts_S10752x3584_S12x896x3584 := by
  unfold Pipeline.afterTail₀
  after_results
  exact congrArg (fun v : S10752x3584.Idx → Elt F .fp8e4m3 => shapeCast S12x896x3584 v shapeCasts_S10752x3584_S12x896x3584)
    (Pipeline.withArrays_arr spec0 launch0.win.arr_inj c (V0 m c) (fun w => (dats m 0 c).arrAt w cfg0.N) 8)

/-- What the lines after the call leave in `main_v7`: window 9's array with its rows split into batch and sequence. -/
theorem tail_9 (c : Dev nD) : Pipeline.afterTail₀ cfgs (dats m) 0 (V0 m) [hostOps1] c main_v7
    = shapeCast S12x896 (α := Elt F .f32) ((dats m 0 c).arrAt 9 cfg0.N) shapeCasts_S10752x1_S12x896 := by
  unfold Pipeline.afterTail₀
  after_results
  exact congrArg (fun v : S10752x1.Idx → Elt F .f32 => shapeCast S12x896 v shapeCasts_S10752x1_S12x896)
    (Pipeline.withArrays_arr spec0 launch0.win.arr_inj c (V0 m c) (fun w => (dats m 0 c).arrAt w cfg0.N) 9)

/-- The run with each result named, the arguments unchanged. -/
theorem run_results : θ_run defs (onTc (τ := τ) (main (F := F))) ⟨m, fun _ => 0, ρ⟩ fun r => ∀ c : Dev nD,
      r.2.mem ((c : Thread nD τ).loc main_v3) = shapeCast S12x896x3584 (α := Elt F .bf16) ((dats m 0 c).arrAt 7 cfg0.N) shapeCasts_S10752x3584_S12x896x3584
      ∧ r.2.mem ((c : Thread nD τ).loc main_v4) = shapeCast S12x896x18944 (α := Elt F .fp8e4m3) ((dats m 0 c).arrAt 5 cfg0.N) shapeCasts_S10752x18944_S12x896x18944
      ∧ r.2.mem ((c : Thread nD τ).loc main_v5) = shapeCast S12x896 (α := Elt F .f32) ((dats m 0 c).arrAt 6 cfg0.N) shapeCasts_S10752x1_S12x896
      ∧ r.2.mem ((c : Thread nD τ).loc main_v6) = shapeCast S12x896x3584 (α := Elt F .fp8e4m3) ((dats m 0 c).arrAt 8 cfg0.N) shapeCasts_S10752x3584_S12x896x3584
      ∧ r.2.mem ((c : Thread nD τ).loc main_v7) = shapeCast S12x896 (α := Elt F .f32) ((dats m 0 c).arrAt 9 cfg0.N) shapeCasts_S10752x1_S12x896
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).2 main_v3 (Pipeline.mem_restRefs_of main_v3 (by decide) (by decide))).trans (tail_7 m c),
      ((h c).2 main_v4 (Pipeline.mem_restRefs_of main_v4 (by decide) (by decide))).trans (tail_5 m c),
      ((h c).2 main_v5 (Pipeline.mem_restRefs_of main_v5 (by decide) (by decide))).trans (tail_6 m c),
      ((h c).2 main_v6 (Pipeline.mem_restRefs_of main_v6 (by decide) (by decide))).trans (tail_8 m c),
      ((h c).2 main_v7 (Pipeline.mem_restRefs_of main_v7 (by decide) (by decide))).trans (tail_9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.DownIdeal.Dwn
-- ==== Proof.Down.Reads.lean ====
module

public import proofs.«01_k».proof.Proof.Down.Results
public import Idealize.ShloMosaic.Lib.ValueIdx
public import proofs.«01_k».proof.Proof.Down.Step
public import proofs.«01_k».proof.Proof.Down.Spec

@[expose] public section

set_option maxRecDepth 16384

noncomputable section

/-! The blocks the down projection's grid steps read, as entries of the arrays the call is given. -/

namespace Cert.DownIdeal.Dwn

open Idealize.ShloMosaic Idealize.ShloMosaic.TcCoe Idealize.ShloMosaic.ValueIdx Idealize.SL.Sem Cert.DownIdeal Cert.DownIdeal.Gen Cert.Quant
open Idealize.ShloMosaic.Pipeline (Dat)

variable (m : (ℓ : Loc nD τ sig) → Buf (Elt Ideal) ℓ)

/-- Window 0's block at a grid point. -/
theorem index_0 : ∀ t : Fin cfg0.N, win0_0.index t 0 = t.val / 37 ∧ win0_0.index t 1 = t.val % 37 :=
  (by decide +kernel : ∀ t : Fin grid0.N, win0_0.index t 0 = t.val / 37 ∧ win0_0.index t 1 = t.val % 37)
/-- Window 1's block at a grid point. -/
theorem index_1 : ∀ t : Fin cfg0.N, win0_1.index t 0 = t.val / 37 ∧ win0_1.index t 1 = 0 :=
  (by decide +kernel : ∀ t : Fin grid0.N, win0_1.index t 0 = t.val / 37 ∧ win0_1.index t 1 = 0)
/-- Window 2's block at a grid point. -/
theorem index_2 : ∀ t : Fin cfg0.N, win0_2.index t 0 = t.val % 37 ∧ win0_2.index t 1 = 0 :=
  (by decide +kernel : ∀ t : Fin grid0.N, win0_2.index t 0 = t.val % 37 ∧ win0_2.index t 1 = 0)
/-- Window 3's block at a grid point. -/
theorem index_3 : ∀ t : Fin cfg0.N, win0_3.index t 0 = 0 ∧ win0_3.index t 1 = 0 :=
  (by decide +kernel : ∀ t : Fin grid0.N, win0_3.index t 0 = 0 ∧ win0_3.index t 1 = 0)
/-- Window 4's block at a grid point. -/
theorem index_4 : ∀ t : Fin cfg0.N, win0_4.index t 0 = t.val / 37 ∧ win0_4.index t 1 = 0 :=
  (by decide +kernel : ∀ t : Fin grid0.N, win0_4.index t 0 = t.val / 37 ∧ win0_4.index t 1 = 0)
/-- Window 5's block at a grid point. -/
theorem index_5 : ∀ t : Fin cfg0.N, win0_5.index t 0 = t.val / 37 ∧ win0_5.index t 1 = t.val % 37 :=
  (by decide +kernel : ∀ t : Fin grid0.N, win0_5.index t 0 = t.val / 37 ∧ win0_5.index t 1 = t.val % 37)
/-- Window 6's block at a grid point. -/
theorem index_6 : ∀ t : Fin cfg0.N, win0_6.index t 0 = t.val / 37 ∧ win0_6.index t 1 = 0 :=
  (by decide +kernel : ∀ t : Fin grid0.N, win0_6.index t 0 = t.val / 37 ∧ win0_6.index t 1 = 0)
/-- Window 7's block at a grid point. -/
theorem index_7 : ∀ t : Fin cfg0.N, win0_7.index t 0 = t.val / 37 ∧ win0_7.index t 1 = 0 :=
  (by decide +kernel : ∀ t : Fin grid0.N, win0_7.index t 0 = t.val / 37 ∧ win0_7.index t 1 = 0)
/-- Window 8's block at a grid point. -/
theorem index_8 : ∀ t : Fin cfg0.N, win0_8.index t 0 = t.val / 37 ∧ win0_8.index t 1 = 0 :=
  (by decide +kernel : ∀ t : Fin grid0.N, win0_8.index t 0 = t.val / 37 ∧ win0_8.index t 1 = 0)
/-- Window 9's block at a grid point. -/
theorem index_9 : ∀ t : Fin cfg0.N, win0_9.index t 0 = t.val / 37 ∧ win0_9.index t 1 = 0 :=
  (by decide +kernel : ∀ t : Fin grid0.N, win0_9.index t 0 = t.val / 37 ∧ win0_9.index t 1 = 0)

/-- The row strip's row `p` at a grid point. -/
abbrev row (t : Fin cfg0.N) (p : Fin 512) : Fin 10752 :=
  ⟨512 * (t.val / 37) + p.val, by have := lt_of_lt_of_eq t.isLt (show cfg0.N = 777 from N_0); omega⟩

/-- The tile's hidden column `k` at a grid point. -/
abbrev hid (t : Fin cfg0.N) (k : Fin 512) : Fin 18944 :=
  ⟨512 * (t.val % 37) + k.val, by have := Nat.mod_lt t.val (show 0 < 37 by decide); omega⟩

/-- The array `h`, as the call finds it. -/
abbrev aH (c : Dev nD) : AH := V m c main_arg0
/-- Its row maxima, as the call finds them. -/
abbrev aA (c : Dev nD) : AC := V m c main_arg1
/-- The weight's codes, as the call finds them. -/
abbrev aW (c : Dev nD) : AW := V m c main_arg2
/-- The weight's scales, as the call finds them. -/
abbrev aS (c : Dev nD) : AS := V m c main_v1
/-- The residual, as the call finds it. -/
abbrev aX (c : Dev nD) : AX := V m c main_v0

/-- The tile of `h` a grid step reads. -/
theorem iblk_0 (c : Dev nD) (t : Fin cfg0.N) (p : Fin 512) (q : Fin 512) :
    (iblk m c 0 t : Vec Ideal S512x512 .f32) (ix2 p q) = aH m c (ix2 (row t p) (hid t q)) := by
  obtain ⟨i0, i1⟩ := index_0 t
  unfold iblk
  rw [View.read_apply]
  show V m c main_arg0 _ = _
  refine congrArg _ (Shape.idx_ext₂ ?_ ?_)
  · show win0_0.index t 0 * 512 + 1 * p.val = 512 * (t.val / 37) + p.val
    rw [i0]; omega
  · show win0_0.index t 1 * 512 + 1 * q.val = 512 * (t.val % 37) + q.val
    rw [i1]; omega

/-- The row maxima a grid step reads. -/
theorem iblk_1 (c : Dev nD) (t : Fin cfg0.N) (p : Fin 512) (q : Fin 1) :
    (iblk m c 1 t : Vec Ideal S512x1 .f32) (ix2 p q) = aA m c (ix2 (row t p) (q)) := by
  obtain ⟨i0, i1⟩ := index_1 t
  unfold iblk
  rw [View.read_apply]
  show V m c main_arg1 _ = _
  refine congrArg _ (Shape.idx_ext₂ ?_ ?_)
  · show win0_1.index t 0 * 512 + 1 * p.val = 512 * (t.val / 37) + p.val
    rw [i0]; omega
  · show win0_1.index t 1 * 1 + 1 * q.val = q.val
    rw [i1]; omega

/-- The tile of the weight a grid step reads. -/
theorem iblk_2 (c : Dev nD) (t : Fin cfg0.N) (p : Fin 512) (q : Fin 3584) :
    (iblk m c 2 t : Vec Ideal S512x3584 .fp8e4m3) (ix2 p q) = aW m c (ix2 (hid t p) (q)) := by
  obtain ⟨i0, i1⟩ := index_2 t
  unfold iblk
  rw [View.read_apply]
  show V m c main_arg2 _ = _
  refine congrArg _ (Shape.idx_ext₂ ?_ ?_)
  · show win0_2.index t 0 * 512 + 1 * p.val = 512 * (t.val % 37) + p.val
    rw [i0]; omega
  · show win0_2.index t 1 * 3584 + 1 * q.val = q.val
    rw [i1]; omega

/-- The weight scales a grid step reads. -/
theorem iblk_3 (c : Dev nD) (t : Fin cfg0.N) (p : Fin 1) (q : Fin 3584) :
    (iblk m c 3 t : Vec Ideal S1x3584 .f32) (ix2 p q) = aS m c (ix2 (p) (q)) := by
  obtain ⟨i0, i1⟩ := index_3 t
  unfold iblk
  rw [View.read_apply]
  show V m c main_v1 _ = _
  refine congrArg _ (Shape.idx_ext₂ ?_ ?_)
  · show win0_3.index t 0 * 1 + 1 * p.val = p.val
    rw [i0]; omega
  · show win0_3.index t 1 * 3584 + 1 * q.val = q.val
    rw [i1]; omega

/-- The residual a grid step reads. -/
theorem iblk_4 (c : Dev nD) (t : Fin cfg0.N) (p : Fin 512) (q : Fin 3584) :
    (iblk m c 4 t : Vec Ideal S512x3584 .bf16) (ix2 p q) = aX m c (ix2 (row t p) (q)) := by
  obtain ⟨i0, i1⟩ := index_4 t
  unfold iblk
  rw [View.read_apply]
  show V m c main_v0 _ = _
  refine congrArg _ (Shape.idx_ext₂ ?_ ?_)
  · show win0_4.index t 0 * 512 + 1 * p.val = 512 * (t.val / 37) + p.val
    rw [i0]; omega
  · show win0_4.index t 1 * 3584 + 1 * q.val = q.val
    rw [i1]; omega

/-- The residual the host hands over: the batch and sequence axes as one. -/
theorem V_v0 (c : Dev nD) : V m c main_v0 = shapeCast S10752x3584 (m ((c : Thread nD τ).loc main_arg4)) shapeCasts_S12x896x3584_S10752x3584 := by
  show StableHlo.after hostOps0 (fun b => m (c, b)) (Proc.devRef .tc main_v0) = _
  after_results
  rfl

/-- The weight scales the host hands over: the argument with a unit axis in front. -/
theorem V_v1 (c : Dev nD) : V m c main_v1 = shapeCast S1x3584 (m ((c : Thread nD τ).loc main_arg3)) shapeCasts_S3584_S1x3584 := by
  show StableHlo.after hostOps0 (fun b => m (c, b)) (Proc.devRef .tc main_v1) = _
  after_results
  rfl

end Cert.DownIdeal.Dwn
-- ==== Proof.Down.Points.lean ====
module

public import proofs.«01_k».proof.Proof.Down.Block
public import proofs.«01_k».proof.Proof.Down.Reads

@[expose] public section

set_option maxRecDepth 16384

noncomputable section

/-! What the down projection's grid steps leave: the accumulator over the tiles of hidden columns, then the five results of a strip. -/

namespace Cert.DownIdeal.Dwn

open Idealize.ShloMosaic Idealize.ShloMosaic.TcCoe Idealize.ShloMosaic.ValueIdx Idealize.SL.Sem Cert.DownIdeal Cert.DownIdeal.Gen Cert.Quant
open Idealize.ShloMosaic.Pipeline (Dat)

variable (m : (ℓ : Loc nD τ sig) → Buf (Elt Ideal) ℓ)

/-- The contraction over the first hidden columns, of the arrays a device holds. -/
abbrev dt (c : Dev nD) : Fin 10752 → Fin 3584 → Nat → EReal := dotTo (aH m c) (aA m c) (aW m c)

/-- The codes of `h` a step leaves are those of the whole array. -/
theorem tile_apply (c : Dev nD) (t : Fin cfg0.N) (p q : Fin 512) :
    (k0_pay1 (hx (iblk m c 0 t : Vec Ideal S512x512 .f32) (iblk m c 1 t : Vec Ideal S512x1 .f32)) : FVec Ideal S512x512 .fp8e4m3) (ix2 p q)
      = hcode (aH m c) (aA m c) (row t p) (hid t q) := by
  refine (codes_apply _ _ p q).trans ?_
  rw [inv_eq, iblk_0 m c t p q, iblk_1 m c t p 0]
  rfl

/-- A step takes the accumulator from one tile's end to the next one's. -/
theorem accn_block (c : Dev nD) (t : Fin cfg0.N) (a : Vec Ideal S512x3584 .f32) (p : Fin 512) (q : Fin 3584)
    (ha : a (ix2 p q) = dt m c (row t p) q (512 * (t.val % 37))) :
    accn (iblk m c 0 t : Vec Ideal S512x512 .f32) (iblk m c 1 t : Vec Ideal S512x1 .f32) (iblk m c 2 t : Vec Ideal S512x3584 .fp8e4m3) a (ix2 p q)
      = dt m c (row t p) q (512 * (t.val % 37 + 1)) := by
  refine (accn_apply _ _ _ _ p q).trans ?_
  rw [ha]
  refine Eq.trans ?_ (dotTo_step _ _ _ (row t p) q (t.val % 37) (Nat.mod_lt _ (by decide))).symm
  refine congrArg (_ + ·) (Finset.sum_congr rfl fun k _ => ?_)
  rw [inv_eq, iblk_0 m c t p k, iblk_1 m c t p 0, iblk_2 m c t k q]
  rfl

/-- After any point but a strip's last the accumulator holds the contraction over the hidden columns up to and including the point's tile. -/
theorem acc_eq (c : Dev nD) : ∀ (n : ℕ) (h : n < cfg0.N), ¬ n % 37 = 36 → ∀ (p : Fin 512) (q : Fin 3584),
    (outsAt0 m c n h).2.2.2.2.2 (ix2 p q) = dt m c (row ⟨n, h⟩ p) q (512 * (n % 37 + 1)) := by
  intro n
  induction n with
  | zero =>
    intro h h1 p q
    rw [outsAt0_A m c ⟨0, h⟩ rfl h1]
    dsimp only
    rw [sout_A]
    exact accn_block m c ⟨0, h⟩ _ p q ((pay2_apply _).trans (dotTo_zero _ _ _ _ _).symm)
  | succ n ih =>
    intro h h1 p q
    by_cases h0 : (n + 1) % 37 = 0
    · rw [outsAt0_A m c ⟨n + 1, h⟩ h0 h1]
      dsimp only
      rw [sout_A]
      refine accn_block m c ⟨n + 1, h⟩ _ p q ((pay2_apply _).trans ?_)
      dsimp only
      rw [h0]
      exact (dotTo_zero _ _ _ _ _).symm
    · rw [outsAt0_B m c ⟨n + 1, h⟩ h0 h1]
      dsimp only
      rw [sout_B]
      refine accn_block m c ⟨n + 1, h⟩ _ p q ?_
      refine (ih (Nat.lt_of_succ_lt h) (by omega) p q).trans ?_
      have hd : n / 37 = (n + 1) / 37 := by omega
      have hm : n % 37 + 1 = (n + 1) % 37 := by omega
      rw [hm]
      exact congrArg (fun r => dt m c r q _) (Fin.ext (by show 512 * (n / 37) + p.val = 512 * ((n + 1) / 37) + p.val; rw [hd]))

/-- At a strip's last point the accumulator's last value is the whole contraction. -/
theorem acc_last (c : Dev nD) (t : Fin cfg0.N) (h1 : t.val % 37 = 36) (hlt : t.val - 1 < cfg0.N) (p : Fin 512) (q : Fin 3584) :
    accn (iblk m c 0 t : Vec Ideal S512x512 .f32) (iblk m c 1 t : Vec Ideal S512x1 .f32) (iblk m c 2 t : Vec Ideal S512x3584 .fp8e4m3)
      (outsAt0 m c (t.val - 1) hlt).2.2.2.2.2 (ix2 p q) = dt m c (row t p) q 18944 := by
  refine (accn_block m c t _ p q ?_).trans (by rw [h1])
  refine (acc_eq m c (t.val - 1) hlt (by omega) p q).trans ?_
  have hd : (t.val - 1) / 37 = t.val / 37 := by omega
  have hm : (t.val - 1) % 37 + 1 = t.val % 37 := by omega
  rw [hm]
  exact congrArg (fun r => dt m c r q _) (Fin.ext (by show 512 * ((t.val - 1) / 37) + p.val = 512 * (t.val / 37) + p.val; rw [hd]))

/-- A value of the result, of the arrays a device holds. -/
abbrev yy (c : Dev nD) : Fin 10752 → Fin 3584 → EReal := yv (aH m c) (aA m c) (aW m c) (aS m c) (aX m c)

/-- From the whole contraction a strip's result is that of the whole array. -/
theorem res_block (c : Dev nD) (t : Fin cfg0.N) (a : Vec Ideal S512x3584 .f32)
    (ha : ∀ (p : Fin 512) (q : Fin 3584), a (ix2 p q) = dt m c (row t p) q 18944) (p : Fin 512) (q : Fin 3584) :
    (k0_pay7 (hscale (iblk m c 1 t : Vec Ideal S512x1 .f32)) (iblk m c 4 t : Vec Ideal S512x3584 .bf16) a (iblk m c 3 t : Vec Ideal S1x3584 .f32)
      : FVec Ideal S512x3584 .f32) (ix2 p q) = yy m c (row t p) q := by
  refine (pay7_apply _ _ _ _ p q).trans ?_
  rw [hscale_apply, scale_eq, ha p q, iblk_1 m c t p 0, iblk_3 m c t 0 q, iblk_4 m c t p q]
  rfl

/-- So is its row maximum. -/
theorem max_block (c : Dev nD) (t : Fin cfg0.N) (a : Vec Ideal S512x3584 .f32)
    (ha : ∀ (p : Fin 512) (q : Fin 3584), a (ix2 p q) = dt m c (row t p) q 18944) (p : Fin 512) :
    (k0_pay9 (hscale (iblk m c 1 t : Vec Ideal S512x1 .f32)) (iblk m c 4 t : Vec Ideal S512x3584 .bf16) a (iblk m c 3 t : Vec Ideal S1x3584 .f32)
      : FVec Ideal S512x1 .f32) (ix2 p 0) = ymax (aH m c) (aA m c) (aW m c) (aS m c) (aX m c) (row t p) := by
  refine (pay9_apply _ _ _ _ p).trans ?_
  unfold ymax
  exact Finset.sup_congr rfl fun q _ => congrArg Up.mag (res_block m c t a ha p q)

/-- After any point the buffer of the codes of `h` holds the point's tile. -/
theorem outs_5 (c : Dev nD) (t : Fin cfg0.N) (p q : Fin 512) :
    (outsAt0 m c t.val t.isLt).1 (ix2 p q) = hcode (aH m c) (aA m c) (row t p) (hid t q) := by
  by_cases h0 : t.val % 37 = 0
  · rw [outsAt0_A m c t h0 (by omega)]; dsimp only; rw [out_A_5]; exact tile_apply m c t p q
  · by_cases h1 : t.val % 37 = 36
    · rw [outsAt0_C m c t h0 h1]; dsimp only; rw [out_C_5]; exact tile_apply m c t p q
    · rw [outsAt0_B m c t h0 h1]; dsimp only; rw [out_B_5]; exact tile_apply m c t p q

/-- After a strip's last point the buffer of the scales of `h` holds the strip's. -/
theorem outs_6 (c : Dev nD) (t : Fin cfg0.N) (h1 : t.val % 37 = 36) (p : Fin 512) :
    (outsAt0 m c t.val t.isLt).2.1 (ix2 p 0) = hsv (aA m c) (row t p) := by
  rw [outsAt0_C m c t (by omega) h1]
  dsimp only
  rw [out_C_6]
  refine (hscale_apply _ _).trans ?_
  rw [scale_eq, iblk_1 m c t p 0]
  rfl

/-- After a strip's last point the result's buffer holds the strip's rows. -/
theorem outs_7 (c : Dev nD) (t : Fin cfg0.N) (h1 : t.val % 37 = 36) (p : Fin 512) (q : Fin 3584) :
    (outsAt0 m c t.val t.isLt).2.2.1 (ix2 p q) = yy m c (row t p) q := by
  rw [outsAt0_C m c t (by omega) h1]
  dsimp only
  rw [out_C_7]
  refine (yout_apply _ _ _ _ _).trans ?_
  exact res_block m c t _ (acc_last m c t h1 _) p q

/-- After a strip's last point the buffer of the result's codes holds the strip's. -/
theorem outs_8 (c : Dev nD) (t : Fin cfg0.N) (h1 : t.val % 37 = 36) (p : Fin 512) (q : Fin 3584) :
    (outsAt0 m c t.val t.isLt).2.2.2.1 (ix2 p q) = ycv (aH m c) (aA m c) (aW m c) (aS m c) (aX m c) (row t p) q := by
  rw [outsAt0_C m c t (by omega) h1]
  dsimp only
  rw [out_C_8]
  refine (ycodes_apply _ _ _ _ p q).trans ?_
  rw [inv_eq]
  exact congrArg₂ code (res_block m c t _ (acc_last m c t h1 _) p q) (congrArg rinv (max_block m c t _ (acc_last m c t h1 _) p))

/-- After a strip's last point the buffer of the result's scales holds the strip's. -/
theorem outs_9 (c : Dev nD) (t : Fin cfg0.N) (h1 : t.val % 37 = 36) (p : Fin 512) :
    (outsAt0 m c t.val t.isLt).2.2.2.2.1 (ix2 p 0) = ysv (aH m c) (aA m c) (aW m c) (aS m c) (aX m c) (row t p) := by
  rw [outsAt0_C m c t (by omega) h1]
  dsimp only
  rw [out_C_9]
  refine (yscale_apply _ _ _ _ _).trans ?_
  rw [Quant.scale_eq]
  exact congrArg rscale (max_block m c t _ (acc_last m c t h1 _) p)

end Cert.DownIdeal.Dwn
-- ==== Proof.Down.Arrays.lean ====
module

public import proofs.«01_k».proof.Proof.Down.Points

@[expose] public section

set_option maxRecDepth 16384

noncomputable section

/-! The five arrays after the down projection's run, as functions of the arrays the call is given. -/

namespace Cert.DownIdeal.Dwn

open Idealize.ShloMosaic Idealize.ShloMosaic.TcCoe Idealize.ShloMosaic.ValueIdx Idealize.SL.Sem Cert.DownIdeal Cert.DownIdeal.Gen Cert.Quant
open Idealize.ShloMosaic.Pipeline (Dat)

variable (m : (ℓ : Loc nD τ sig) → Buf (Elt Ideal) ℓ)

/-- The array of the codes of `h`. -/
abbrev G5 (c : Dev nD) : Buf (Elt Ideal) ((c : Thread nD τ).loc main_v2_0) := fun i => hcode (aH m c) (aA m c) (i 0) (i 1)

/-- What a point writes back to the array of the codes of `h` is its block of `G5`. -/
theorem flushed_5 (c : Dev nD) (t : Fin cfg0.N) (_ : (cfg0.win 5).flush t = true) :
    (dats m 0 c).flushed 5 t = ((cfg0.win 5).blk t).view.read (Elt Ideal) (G5 m c) := by
  obtain ⟨i0, i1⟩ := index_5 t
  refine (flushed5 m c t).trans ?_
  have hs := outs_5 m c t
  generalize (outsAt0 m c t.val t.isLt).1 = o at hs ⊢
  funext (y : S512x512.Idx)
  rw [View.read_apply]
  have e : (y : S512x512.Idx) = ix2 (y 0) (y 1) := eq_ix2 y
  show o y = hcode (aH m c) (aA m c) _ _
  rw [e]
  refine (hs (y 0) (y 1)).trans (congrArg₂ (hcode (aH m c) (aA m c)) (Fin.ext ?_) (Fin.ext ?_))
  · show 512 * (t.val / 37) + (y 0).val = win0_5.index t 0 * 512 + 1 * (y 0).val
    rw [i0]; omega
  · show 512 * (t.val % 37) + (y 1).val = win0_5.index t 1 * 512 + 1 * (y 1).val
    rw [i1]; omega

/-- The array of the codes of `h` after the run. -/
theorem final_5 (c : Dev nD) : (dats m 0 c).arrAt 5 cfg0.N = G5 m c :=
  (dats m 0 c).arrAt_eq_of_cover 5 (G5 m c) (flushed_5 m c) fun i => by
    have h0 : (i 0 : Nat) < 10752 := (i 0).isLt
    have h1 : (i 1 : Nat) < 18944 := (i 1).isLt
    have hlt : 37 * ((i 0 : Nat) / 512) + (i 1 : Nat) / 512 < cfg0.N := by rw [show cfg0.N = 777 from N_0]; omega
    refine ⟨⟨37 * ((i 0 : Nat) / 512) + (i 1 : Nat) / 512, hlt⟩, flush0_5 _, ?_⟩
    obtain ⟨i0, i1⟩ := index_5 ⟨37 * ((i 0 : Nat) / 512) + (i 1 : Nat) / 512, hlt⟩
    show i ∈ ((View.whole main_v2_0).slice (win0_5.rect ⟨37 * ((i 0 : Nat) / 512) + (i 1 : Nat) / 512, hlt⟩)).set
    rw [View.set_slice_whole, Rect.mem_set_unit]
    intro a
    match a with
    | ⟨0, _⟩ =>
      show win0_5.index _ 0 * 512 ≤ (i 0 : Nat) ∧ (i 0 : Nat) < win0_5.index _ 0 * 512 + 512
      rw [i0]; dsimp only; omega
    | ⟨1, _⟩ =>
      show win0_5.index _ 1 * 512 ≤ (i 1 : Nat) ∧ (i 1 : Nat) < win0_5.index _ 1 * 512 + 512
      rw [i1]; dsimp only; omega

/-- The array of the scales of `h`. -/
abbrev G6 (c : Dev nD) : Buf (Elt Ideal) ((c : Thread nD τ).loc main_v2_1) := fun i => hsv (aA m c) (i 0)

/-- What a point writes back to the array of the scales of `h` is its block of `G6`. -/
theorem flushed_6 (c : Dev nD) (t : Fin cfg0.N) (hf : (cfg0.win 6).flush t = true) :
    (dats m 0 c).flushed 6 t = ((cfg0.win 6).blk t).view.read (Elt Ideal) (G6 m c) := by
  obtain ⟨i0, i1⟩ := index_6 t
  refine (flushed6 m c t).trans ?_
  have hs := outs_6 m c t ((flush0_6 t).mp hf)
  generalize (outsAt0 m c t.val t.isLt).2.1 = o at hs ⊢
  funext (y : S512x1.Idx)
  rw [View.read_apply]
  have e : (y : S512x1.Idx) = ix2 (y 0) 0 := by
    refine (eq_ix2 y).trans (congrArg (ix2 (y 0)) (Fin.ext ?_))
    have := (y 1).isLt
    show (y 1).val = 0
    exact Nat.lt_one_iff.mp this
  show o y = hsv (aA m c) _
  rw [e]
  refine (hs (y 0)).trans (congrArg (hsv (aA m c)) (Fin.ext ?_))
  show 512 * (t.val / 37) + (y 0).val = win0_6.index t 0 * 512 + 1 * (y 0).val
  rw [i0]; omega

/-- The array of the scales of `h` after the run. -/
theorem final_6 (c : Dev nD) : (dats m 0 c).arrAt 6 cfg0.N = G6 m c :=
  (dats m 0 c).arrAt_eq_of_cover 6 (G6 m c) (flushed_6 m c) fun i => by
    have h0 : (i 0 : Nat) < 10752 := (i 0).isLt
    have h1 : (i 1 : Nat) < 1 := (i 1).isLt
    have hlt : 37 * ((i 0 : Nat) / 512) + 36 < cfg0.N := by rw [show cfg0.N = 777 from N_0]; omega
    refine ⟨⟨37 * ((i 0 : Nat) / 512) + 36, hlt⟩, (flush0_6 _).mpr (by dsimp only; omega), ?_⟩
    obtain ⟨i0, i1⟩ := index_6 ⟨37 * ((i 0 : Nat) / 512) + 36, hlt⟩
    show i ∈ ((View.whole main_v2_1).slice (win0_6.rect ⟨37 * ((i 0 : Nat) / 512) + 36, hlt⟩)).set
    rw [View.set_slice_whole, Rect.mem_set_unit]
    intro a
    match a with
    | ⟨0, _⟩ =>
      show win0_6.index _ 0 * 512 ≤ (i 0 : Nat) ∧ (i 0 : Nat) < win0_6.index _ 0 * 512 + 512
      rw [i0]; dsimp only; omega
    | ⟨1, _⟩ =>
      show win0_6.index _ 1 * 1 ≤ (i 1 : Nat) ∧ (i 1 : Nat) < win0_6.index _ 1 * 1 + 1
      rw [i1]; dsimp only; omega

/-- The array of the result's rows. -/
abbrev G7 (c : Dev nD) : Buf (Elt Ideal) ((c : Thread nD τ).loc main_v2_2) := fun i => yv (aH m c) (aA m c) (aW m c) (aS m c) (aX m c) (i 0) (i 1)

/-- What a point writes back to the array of the result's rows is its block of `G7`. -/
theorem flushed_7 (c : Dev nD) (t : Fin cfg0.N) (hf : (cfg0.win 7).flush t = true) :
    (dats m 0 c).flushed 7 t = ((cfg0.win 7).blk t).view.read (Elt Ideal) (G7 m c) := by
  obtain ⟨i0, i1⟩ := index_7 t
  refine (flushed7 m c t).trans ?_
  have hs := outs_7 m c t ((flush0_7 t).mp hf)
  generalize (outsAt0 m c t.val t.isLt).2.2.1 = o at hs ⊢
  funext (y : S512x3584.Idx)
  rw [View.read_apply]
  have e : (y : S512x3584.Idx) = ix2 (y 0) (y 1) := eq_ix2 y
  show o y = yv (aH m c) (aA m c) (aW m c) (aS m c) (aX m c) _ _
  rw [e]
  refine (hs (y 0) (y 1)).trans (congrArg₂ (yv (aH m c) (aA m c) (aW m c) (aS m c) (aX m c)) (Fin.ext ?_) (Fin.ext ?_))
  · show 512 * (t.val / 37) + (y 0).val = win0_7.index t 0 * 512 + 1 * (y 0).val
    rw [i0]; omega
  · show (y 1).val = win0_7.index t 1 * 3584 + 1 * (y 1).val
    rw [i1]; omega

/-- The array of the result's rows after the run. -/
theorem final_7 (c : Dev nD) : (dats m 0 c).arrAt 7 cfg0.N = G7 m c :=
  (dats m 0 c).arrAt_eq_of_cover 7 (G7 m c) (flushed_7 m c) fun i => by
    have h0 : (i 0 : Nat) < 10752 := (i 0).isLt
    have h1 : (i 1 : Nat) < 3584 := (i 1).isLt
    have hlt : 37 * ((i 0 : Nat) / 512) + 36 < cfg0.N := by rw [show cfg0.N = 777 from N_0]; omega
    refine ⟨⟨37 * ((i 0 : Nat) / 512) + 36, hlt⟩, (flush0_7 _).mpr (by dsimp only; omega), ?_⟩
    obtain ⟨i0, i1⟩ := index_7 ⟨37 * ((i 0 : Nat) / 512) + 36, hlt⟩
    show i ∈ ((View.whole main_v2_2).slice (win0_7.rect ⟨37 * ((i 0 : Nat) / 512) + 36, hlt⟩)).set
    rw [View.set_slice_whole, Rect.mem_set_unit]
    intro a
    match a with
    | ⟨0, _⟩ =>
      show win0_7.index _ 0 * 512 ≤ (i 0 : Nat) ∧ (i 0 : Nat) < win0_7.index _ 0 * 512 + 512
      rw [i0]; dsimp only; omega
    | ⟨1, _⟩ =>
      show win0_7.index _ 1 * 3584 ≤ (i 1 : Nat) ∧ (i 1 : Nat) < win0_7.index _ 1 * 3584 + 3584
      rw [i1]; dsimp only; omega

/-- The array of the result's codes. -/
abbrev G8 (c : Dev nD) : Buf (Elt Ideal) ((c : Thread nD τ).loc main_v2_3) := fun i => ycv (aH m c) (aA m c) (aW m c) (aS m c) (aX m c) (i 0) (i 1)

/-- What a point writes back to the array of the result's codes is its block of `G8`. -/
theorem flushed_8 (c : Dev nD) (t : Fin cfg0.N) (hf : (cfg0.win 8).flush t = true) :
    (dats m 0 c).flushed 8 t = ((cfg0.win 8).blk t).view.read (Elt Ideal) (G8 m c) := by
  obtain ⟨i0, i1⟩ := index_8 t
  refine (flushed8 m c t).trans ?_
  have hs := outs_8 m c t ((flush0_8 t).mp hf)
  generalize (outsAt0 m c t.val t.isLt).2.2.2.1 = o at hs ⊢
  funext (y : S512x3584.Idx)
  rw [View.read_apply]
  have e : (y : S512x3584.Idx) = ix2 (y 0) (y 1) := eq_ix2 y
  show o y = ycv (aH m c) (aA m c) (aW m c) (aS m c) (aX m c) _ _
  rw [e]
  refine (hs (y 0) (y 1)).trans (congrArg₂ (ycv (aH m c) (aA m c) (aW m c) (aS m c) (aX m c)) (Fin.ext ?_) (Fin.ext ?_))
  · show 512 * (t.val / 37) + (y 0).val = win0_8.index t 0 * 512 + 1 * (y 0).val
    rw [i0]; omega
  · show (y 1).val = win0_8.index t 1 * 3584 + 1 * (y 1).val
    rw [i1]; omega

/-- The array of the result's codes after the run. -/
theorem final_8 (c : Dev nD) : (dats m 0 c).arrAt 8 cfg0.N = G8 m c :=
  (dats m 0 c).arrAt_eq_of_cover 8 (G8 m c) (flushed_8 m c) fun i => by
    have h0 : (i 0 : Nat) < 10752 := (i 0).isLt
    have h1 : (i 1 : Nat) < 3584 := (i 1).isLt
    have hlt : 37 * ((i 0 : Nat) / 512) + 36 < cfg0.N := by rw [show cfg0.N = 777 from N_0]; omega
    refine ⟨⟨37 * ((i 0 : Nat) / 512) + 36, hlt⟩, (flush0_8 _).mpr (by dsimp only; omega), ?_⟩
    obtain ⟨i0, i1⟩ := index_8 ⟨37 * ((i 0 : Nat) / 512) + 36, hlt⟩
    show i ∈ ((View.whole main_v2_3).slice (win0_8.rect ⟨37 * ((i 0 : Nat) / 512) + 36, hlt⟩)).set
    rw [View.set_slice_whole, Rect.mem_set_unit]
    intro a
    match a with
    | ⟨0, _⟩ =>
      show win0_8.index _ 0 * 512 ≤ (i 0 : Nat) ∧ (i 0 : Nat) < win0_8.index _ 0 * 512 + 512
      rw [i0]; dsimp only; omega
    | ⟨1, _⟩ =>
      show win0_8.index _ 1 * 3584 ≤ (i 1 : Nat) ∧ (i 1 : Nat) < win0_8.index _ 1 * 3584 + 3584
      rw [i1]; dsimp only; omega

/-- The array of the result's scales. -/
abbrev G9 (c : Dev nD) : Buf (Elt Ideal) ((c : Thread nD τ).loc main_v2_4) := fun i => ysv (aH m c) (aA m c) (aW m c) (aS m c) (aX m c) (i 0)

/-- What a point writes back to the array of the result's scales is its block of `G9`. -/
theorem flushed_9 (c : Dev nD) (t : Fin cfg0.N) (hf : (cfg0.win 9).flush t = true) :
    (dats m 0 c).flushed 9 t = ((cfg0.win 9).blk t).view.read (Elt Ideal) (G9 m c) := by
  obtain ⟨i0, i1⟩ := index_9 t
  refine (flushed9 m c t).trans ?_
  have hs := outs_9 m c t ((flush0_9 t).mp hf)
  generalize (outsAt0 m c t.val t.isLt).2.2.2.2.1 = o at hs ⊢
  funext (y : S512x1.Idx)
  rw [View.read_apply]
  have e : (y : S512x1.Idx) = ix2 (y 0) 0 := by
    refine (eq_ix2 y).trans (congrArg (ix2 (y 0)) (Fin.ext ?_))
    have := (y 1).isLt
    show (y 1).val = 0
    exact Nat.lt_one_iff.mp this
  show o y = ysv (aH m c) (aA m c) (aW m c) (aS m c) (aX m c) _
  rw [e]
  refine (hs (y 0)).trans (congrArg (ysv (aH m c) (aA m c) (aW m c) (aS m c) (aX m c)) (Fin.ext ?_))
  show 512 * (t.val / 37) + (y 0).val = win0_9.index t 0 * 512 + 1 * (y 0).val
  rw [i0]; omega

/-- The array of the result's scales after the run. -/
theorem final_9 (c : Dev nD) : (dats m 0 c).arrAt 9 cfg0.N = G9 m c :=
  (dats m 0 c).arrAt_eq_of_cover 9 (G9 m c) (flushed_9 m c) fun i => by
    have h0 : (i 0 : Nat) < 10752 := (i 0).isLt
    have h1 : (i 1 : Nat) < 1 := (i 1).isLt
    have hlt : 37 * ((i 0 : Nat) / 512) + 36 < cfg0.N := by rw [show cfg0.N = 777 from N_0]; omega
    refine ⟨⟨37 * ((i 0 : Nat) / 512) + 36, hlt⟩, (flush0_9 _).mpr (by dsimp only; omega), ?_⟩
    obtain ⟨i0, i1⟩ := index_9 ⟨37 * ((i 0 : Nat) / 512) + 36, hlt⟩
    show i ∈ ((View.whole main_v2_4).slice (win0_9.rect ⟨37 * ((i 0 : Nat) / 512) + 36, hlt⟩)).set
    rw [View.set_slice_whole, Rect.mem_set_unit]
    intro a
    match a with
    | ⟨0, _⟩ =>
      show win0_9.index _ 0 * 512 ≤ (i 0 : Nat) ∧ (i 0 : Nat) < win0_9.index _ 0 * 512 + 512
      rw [i0]; dsimp only; omega
    | ⟨1, _⟩ =>
      show win0_9.index _ 1 * 1 ≤ (i 1 : Nat) ∧ (i 1 : Nat) < win0_9.index _ 1 * 1 + 1
      rw [i1]; dsimp only; omega

end Cert.DownIdeal.Dwn
-- ==== Proof.Down.RefArrays.lean ====
module

public import proofs.«01_k».proof.Proof.Gen.DownReferenceIdeal.Frame
public import Idealize.ShloMosaic.Lib.Pipeline.Value

@[expose] public section

set_option maxRecDepth 16384

noncomputable section

/-! The run of the down projection's reference: its five result arrays as the body's values of the arguments. -/

namespace Cert.DownReferenceIdeal.Dwn

open Idealize.ShloMosaic Idealize.ShloMosaic.TcCoe Idealize.SL.Sem Cert.DownReferenceIdeal Cert.DownReferenceIdeal.Gen
open Idealize.ShloMosaic.Pipeline (Dat)

variable {F : FTy → Type} [FloatOps F]
variable (m : (ℓ : Loc nD τ sig) → Buf (Elt F) ℓ) (ρ : Dev nD → PrngReg)

/-- The one grid point. -/
abbrev pt : Fin cfg0.N := ⟨0, by decide⟩

/-- Window 0's block is its whole array. -/
theorem iblk_0 (c : Dev nD) : iblk m c 0 pt = V m c main_arg0 := by
  have hz' : (fun a => win0_0.index pt a * main_arg0.ty.shape.size a) = fun _ => 0 := funext fun a => by fin_cases a <;> decide
  exact Memref.read_access_unit_zero (Elt F) main_arg0 hz' (fun a => by rw [congrFun hz' a]; simp) (V m c main_arg0)

/-- Window 1's block is its whole array. -/
theorem iblk_1 (c : Dev nD) : iblk m c 1 pt = V m c main_arg1 := by
  have hz' : (fun a => win0_1.index pt a * main_arg1.ty.shape.size a) = fun _ => 0 := funext fun a => by fin_cases a <;> decide
  exact Memref.read_access_unit_zero (Elt F) main_arg1 hz' (fun a => by rw [congrFun hz' a]; simp) (V m c main_arg1)

/-- Window 2's block is its whole array. -/
theorem iblk_2 (c : Dev nD) : iblk m c 2 pt = V m c main_arg2 := by
  have hz' : (fun a => win0_2.index pt a * main_arg2.ty.shape.size a) = fun _ => 0 := funext fun a => by fin_cases a <;> decide
  exact Memref.read_access_unit_zero (Elt F) main_arg2 hz' (fun a => by rw [congrFun hz' a]; simp) (V m c main_arg2)

/-- Window 3's block is its whole array. -/
theorem iblk_3 (c : Dev nD) : iblk m c 3 pt = V m c main_v0 := by
  have hz' : (fun a => win0_3.index pt a * main_v0.ty.shape.size a) = fun _ => 0 := funext fun a => by fin_cases a <;> decide
  exact Memref.read_access_unit_zero (Elt F) main_v0 hz' (fun a => by rw [congrFun hz' a]; simp) (V m c main_v0)

/-- Window 4's block is its whole array. -/
theorem iblk_4 (c : Dev nD) : iblk m c 4 pt = V m c main_v1 := by
  have hz' : (fun a => win0_4.index pt a * main_v1.ty.shape.size a) = fun _ => 0 := funext fun a => by fin_cases a <;> decide
  exact Memref.read_access_unit_zero (Elt F) main_v1 hz' (fun a => by rw [congrFun hz' a]; simp) (V m c main_v1)

/-- The residual the host hands over: the batch and sequence axes as one. -/
theorem V_v1 (c : Dev nD) : V m c main_v1 = shapeCast S10752x3584 (m ((c : Thread nD τ).loc main_arg4)) shapeCasts_S12x896x3584_S10752x3584 := by
  show StableHlo.after hostOps0 (fun b => m (c, b)) (Proc.devRef .tc main_v1) = _
  after_results
  rfl

/-- The weight scales the host hands over: the argument with a unit axis in front. -/
theorem V_v0 (c : Dev nD) : V m c main_v0 = shapeCast S1x3584 (m ((c : Thread nD τ).loc main_arg3)) shapeCasts_S3584_S1x3584 := by
  show StableHlo.after hostOps0 (fun b => m (c, b)) (Proc.devRef .tc main_v0) = _
  after_results
  rfl

/-- The offset of a whole-block access. -/
theorem hz : (![0, 0] : Fin 2 → Nat) = fun _ => 0 := funext fun a => by fin_cases a <;> rfl

/-- What the reference's body leaves for window 5. -/
theorem out_5 (x0 : Vec F S10752x18944 .f32) (x1 : Vec F S10752x1 .f32) (x2 : Vec F S18944x3584 .fp8e4m3) (x3 : Vec F S1x3584 .f32) (x4 : Vec F S10752x3584 .bf16) :
    out0_5 x0 x1 x2 x3 x4 = k0_pay3 x0 x1 := by
  unfold out0_5
  rw [View.canon_unit_zero hz]
  simp only [View.ld_unit_zero (S := S10752x18944) hz, View.ld_unit_zero (S := S10752x1) hz, View.ld_unit_zero (S := S18944x3584) hz,
    View.ld_unit_zero (S := S1x3584) hz, View.ld_unit_zero (S := S10752x3584) hz]

/-- The result array of window 5 after the run. -/
theorem final_5 (c : Dev nD) : (dats m 0 c).arrAt 5 cfg0.N
    = (k0_pay3 (V m c main_arg0) (V m c main_arg1) : Vec F S10752x18944 .fp8e4m3) := by
  have hz' : (fun a => win0_5.index pt a * main_v2_0.ty.shape.size a) = fun _ => 0 := funext fun a => by fin_cases a <;> decide
  refine (dats m 0 c).arrAt_eq_of_cover 5 _ (fun t _ => ?_) fun i => ⟨pt, by decide, ?_⟩
  · obtain rfl : t = pt := Fin.ext (by have := lt_of_lt_of_eq t.isLt (show cfg0.N = 1 from N_0); show t.val = 0; omega)
    show (cfg0.win 5).cut (grid0.coords pt) ((dats m 0 c).after 5 pt) = _
    rw [after0_5, out_5, iblk_0, iblk_1]
    exact (Memref.read_access_unit_zero (Elt F) main_v2_0 hz' (fun a => by rw [congrFun hz' a]; simp) _).symm
  · show i ∈ ((View.whole main_v2_0).slice (win0_5.rect pt)).set
    rw [View.set_slice_whole]
    exact View.mem_set_unit_zero (S := S10752x18944) hz' (fun a => by rw [congrFun hz' a]; simp) i

/-- What the reference's body leaves for window 6. -/
theorem out_6 (x0 : Vec F S10752x18944 .f32) (x1 : Vec F S10752x1 .f32) (x2 : Vec F S18944x3584 .fp8e4m3) (x3 : Vec F S1x3584 .f32) (x4 : Vec F S10752x3584 .bf16) :
    out0_6 x0 x1 x2 x3 x4 = k0_pay2 x1 := by
  unfold out0_6
  rw [View.canon_unit_zero hz]
  simp only [View.ld_unit_zero (S := S10752x18944) hz, View.ld_unit_zero (S := S10752x1) hz, View.ld_unit_zero (S := S18944x3584) hz,
    View.ld_unit_zero (S := S1x3584) hz, View.ld_unit_zero (S := S10752x3584) hz]

/-- The result array of window 6 after the run. -/
theorem final_6 (c : Dev nD) : (dats m 0 c).arrAt 6 cfg0.N
    = (k0_pay2 (V m c main_arg1) : Vec F S10752x1 .f32) := by
  have hz' : (fun a => win0_6.index pt a * main_v2_1.ty.shape.size a) = fun _ => 0 := funext fun a => by fin_cases a <;> decide
  refine (dats m 0 c).arrAt_eq_of_cover 6 _ (fun t _ => ?_) fun i => ⟨pt, by decide, ?_⟩
  · obtain rfl : t = pt := Fin.ext (by have := lt_of_lt_of_eq t.isLt (show cfg0.N = 1 from N_0); show t.val = 0; omega)
    show (cfg0.win 6).cut (grid0.coords pt) ((dats m 0 c).after 6 pt) = _
    rw [after0_6, out_6, iblk_1]
    exact (Memref.read_access_unit_zero (Elt F) main_v2_1 hz' (fun a => by rw [congrFun hz' a]; simp) _).symm
  · show i ∈ ((View.whole main_v2_1).slice (win0_6.rect pt)).set
    rw [View.set_slice_whole]
    exact View.mem_set_unit_zero (S := S10752x1) hz' (fun a => by rw [congrFun hz' a]; simp) i

/-- What the reference's body leaves for window 7. -/
theorem out_7 (x0 : Vec F S10752x18944 .f32) (x1 : Vec F S10752x1 .f32) (x2 : Vec F S18944x3584 .fp8e4m3) (x3 : Vec F S1x3584 .f32) (x4 : Vec F S10752x3584 .bf16) :
    out0_7 x0 x1 x2 x3 x4 = k0_pay10 (k0_pay4 x0 x1 x2 x3) (k0_pay5 x4) := by
  unfold out0_7 k0_pay11 k0_pay12
  rw [View.canon_unit_zero hz]
  simp only [View.ld_unit_zero (S := S10752x18944) hz, View.ld_unit_zero (S := S10752x1) hz, View.ld_unit_zero (S := S18944x3584) hz,
    View.ld_unit_zero (S := S1x3584) hz, View.ld_unit_zero (S := S10752x3584) hz]

/-- The result array of window 7 after the run. -/
theorem final_7 (c : Dev nD) : (dats m 0 c).arrAt 7 cfg0.N
    = (k0_pay10 (k0_pay4 (V m c main_arg0) (V m c main_arg1) (V m c main_arg2) (V m c main_v0)) (k0_pay5 (V m c main_v1)) : Vec F S10752x3584 .bf16) := by
  have hz' : (fun a => win0_7.index pt a * main_v2_2.ty.shape.size a) = fun _ => 0 := funext fun a => by fin_cases a <;> decide
  refine (dats m 0 c).arrAt_eq_of_cover 7 _ (fun t _ => ?_) fun i => ⟨pt, by decide, ?_⟩
  · obtain rfl : t = pt := Fin.ext (by have := lt_of_lt_of_eq t.isLt (show cfg0.N = 1 from N_0); show t.val = 0; omega)
    show (cfg0.win 7).cut (grid0.coords pt) ((dats m 0 c).after 7 pt) = _
    rw [after0_7, out_7, iblk_0, iblk_1, iblk_2, iblk_3, iblk_4]
    exact (Memref.read_access_unit_zero (Elt F) main_v2_2 hz' (fun a => by rw [congrFun hz' a]; simp) _).symm
  · show i ∈ ((View.whole main_v2_2).slice (win0_7.rect pt)).set
    rw [View.set_slice_whole]
    exact View.mem_set_unit_zero (S := S10752x3584) hz' (fun a => by rw [congrFun hz' a]; simp) i

/-- What the reference's body leaves for window 8. -/
theorem out_8 (x0 : Vec F S10752x18944 .f32) (x1 : Vec F S10752x1 .f32) (x2 : Vec F S18944x3584 .fp8e4m3) (x3 : Vec F S1x3584 .f32) (x4 : Vec F S10752x3584 .bf16) :
    out0_8 x0 x1 x2 x3 x4 = k0_pay9 (k0_pay4 x0 x1 x2 x3) (k0_pay5 x4) := by
  unfold out0_8 k0_pay11 k0_pay12
  rw [View.canon_unit_zero hz]
  simp only [View.ld_unit_zero (S := S10752x18944) hz, View.ld_unit_zero (S := S10752x1) hz, View.ld_unit_zero (S := S18944x3584) hz,
    View.ld_unit_zero (S := S1x3584) hz, View.ld_unit_zero (S := S10752x3584) hz]

/-- The result array of window 8 after the run. -/
theorem final_8 (c : Dev nD) : (dats m 0 c).arrAt 8 cfg0.N
    = (k0_pay9 (k0_pay4 (V m c main_arg0) (V m c main_arg1) (V m c main_arg2) (V m c main_v0)) (k0_pay5 (V m c main_v1)) : Vec F S10752x3584 .fp8e4m3) := by
  have hz' : (fun a => win0_8.index pt a * main_v2_3.ty.shape.size a) = fun _ => 0 := funext fun a => by fin_cases a <;> decide
  refine (dats m 0 c).arrAt_eq_of_cover 8 _ (fun t _ => ?_) fun i => ⟨pt, by decide, ?_⟩
  · obtain rfl : t = pt := Fin.ext (by have := lt_of_lt_of_eq t.isLt (show cfg0.N = 1 from N_0); show t.val = 0; omega)
    show (cfg0.win 8).cut (grid0.coords pt) ((dats m 0 c).after 8 pt) = _
    rw [after0_8, out_8, iblk_0, iblk_1, iblk_2, iblk_3, iblk_4]
    exact (Memref.read_access_unit_zero (Elt F) main_v2_3 hz' (fun a => by rw [congrFun hz' a]; simp) _).symm
  · show i ∈ ((View.whole main_v2_3).slice (win0_8.rect pt)).set
    rw [View.set_slice_whole]
    exact View.mem_set_unit_zero (S := S10752x3584) hz' (fun a => by rw [congrFun hz' a]; simp) i

/-- What the reference's body leaves for window 9. -/
theorem out_9 (x0 : Vec F S10752x18944 .f32) (x1 : Vec F S10752x1 .f32) (x2 : Vec F S18944x3584 .fp8e4m3) (x3 : Vec F S1x3584 .f32) (x4 : Vec F S10752x3584 .bf16) :
    out0_9 x0 x1 x2 x3 x4 = k0_pay8 (k0_pay4 x0 x1 x2 x3) (k0_pay5 x4) := by
  unfold out0_9 k0_pay11 k0_pay12
  rw [View.canon_unit_zero hz]
  simp only [View.ld_unit_zero (S := S10752x18944) hz, View.ld_unit_zero (S := S10752x1) hz, View.ld_unit_zero (S := S18944x3584) hz,
    View.ld_unit_zero (S := S1x3584) hz, View.ld_unit_zero (S := S10752x3584) hz]

/-- The result array of window 9 after the run. -/
theorem final_9 (c : Dev nD) : (dats m 0 c).arrAt 9 cfg0.N
    = (k0_pay8 (k0_pay4 (V m c main_arg0) (V m c main_arg1) (V m c main_arg2) (V m c main_v0)) (k0_pay5 (V m c main_v1)) : Vec F S10752x1 .f32) := by
  have hz' : (fun a => win0_9.index pt a * main_v2_4.ty.shape.size a) = fun _ => 0 := funext fun a => by fin_cases a <;> decide
  refine (dats m 0 c).arrAt_eq_of_cover 9 _ (fun t _ => ?_) fun i => ⟨pt, by decide, ?_⟩
  · obtain rfl : t = pt := Fin.ext (by have := lt_of_lt_of_eq t.isLt (show cfg0.N = 1 from N_0); show t.val = 0; omega)
    show (cfg0.win 9).cut (grid0.coords pt) ((dats m 0 c).after 9 pt) = _
    rw [after0_9, out_9, iblk_0, iblk_1, iblk_2, iblk_3, iblk_4]
    exact (Memref.read_access_unit_zero (Elt F) main_v2_4 hz' (fun a => by rw [congrFun hz' a]; simp) _).symm
  · show i ∈ ((View.whole main_v2_4).slice (win0_9.rect pt)).set
    rw [View.set_slice_whole]
    exact View.mem_set_unit_zero (S := S10752x1) hz' (fun a => by rw [congrFun hz' a]; simp) i

/-- What the lines after the call leave in `main_v3`: window 7's array with its rows split into batch and sequence. -/
theorem tail_7 (c : Dev nD) : Pipeline.afterTail₀ cfgs (dats m) 0 (V0 m) [hostOps1] c main_v3
    = shapeCast S12x896x3584 (α := Elt F .bf16) ((dats m 0 c).arrAt 7 cfg0.N) shapeCasts_S10752x3584_S12x896x3584 := by
  unfold Pipeline.afterTail₀
  after_results
  exact congrArg (fun v : S10752x3584.Idx → Elt F .bf16 => shapeCast S12x896x3584 v shapeCasts_S10752x3584_S12x896x3584)
    (Pipeline.withArrays_arr spec0 launch0.win.arr_inj c (V0 m c) (fun w => (dats m 0 c).arrAt w cfg0.N) 7)

/-- What the lines after the call leave in `main_v4`: window 5's array with its rows split into batch and sequence. -/
theorem tail_5 (c : Dev nD) : Pipeline.afterTail₀ cfgs (dats m) 0 (V0 m) [hostOps1] c main_v4
    = shapeCast S12x896x18944 (α := Elt F .fp8e4m3) ((dats m 0 c).arrAt 5 cfg0.N) shapeCasts_S10752x18944_S12x896x18944 := by
  unfold Pipeline.afterTail₀
  after_results
  exact congrArg (fun v : S10752x18944.Idx → Elt F .fp8e4m3 => shapeCast S12x896x18944 v shapeCasts_S10752x18944_S12x896x18944)
    (Pipeline.withArrays_arr spec0 launch0.win.arr_inj c (V0 m c) (fun w => (dats m 0 c).arrAt w cfg0.N) 5)

/-- What the lines after the call leave in `main_v5`: window 6's array with its rows split into batch and sequence. -/
theorem tail_6 (c : Dev nD) : Pipeline.afterTail₀ cfgs (dats m) 0 (V0 m) [hostOps1] c main_v5
    = shapeCast S12x896 (α := Elt F .f32) ((dats m 0 c).arrAt 6 cfg0.N) shapeCasts_S10752x1_S12x896 := by
  unfold Pipeline.afterTail₀
  after_results
  exact congrArg (fun v : S10752x1.Idx → Elt F .f32 => shapeCast S12x896 v shapeCasts_S10752x1_S12x896)
    (Pipeline.withArrays_arr spec0 launch0.win.arr_inj c (V0 m c) (fun w => (dats m 0 c).arrAt w cfg0.N) 6)

/-- What the lines after the call leave in `main_v6`: window 8's array with its rows split into batch and sequence. -/
theorem tail_8 (c : Dev nD) : Pipeline.afterTail₀ cfgs (dats m) 0 (V0 m) [hostOps1] c main_v6
    = shapeCast S12x896x3584 (α := Elt F .fp8e4m3) ((dats m 0 c).arrAt 8 cfg0.N) shapeCasts_S10752x3584_S12x896x3584 := by
  unfold Pipeline.afterTail₀
  after_results
  exact congrArg (fun v : S10752x3584.Idx → Elt F .fp8e4m3 => shapeCast S12x896x3584 v shapeCasts_S10752x3584_S12x896x3584)
    (Pipeline.withArrays_arr spec0 launch0.win.arr_inj c (V0 m c) (fun w => (dats m 0 c).arrAt w cfg0.N) 8)

/-- What the lines after the call leave in `main_v7`: window 9's array with its rows split into batch and sequence. -/
theorem tail_9 (c : Dev nD) : Pipeline.afterTail₀ cfgs (dats m) 0 (V0 m) [hostOps1] c main_v7
    = shapeCast S12x896 (α := Elt F .f32) ((dats m 0 c).arrAt 9 cfg0.N) shapeCasts_S10752x1_S12x896 := by
  unfold Pipeline.afterTail₀
  after_results
  exact congrArg (fun v : S10752x1.Idx → Elt F .f32 => shapeCast S12x896 v shapeCasts_S10752x1_S12x896)
    (Pipeline.withArrays_arr spec0 launch0.win.arr_inj c (V0 m c) (fun w => (dats m 0 c).arrAt w cfg0.N) 9)

/-- The run with each result named, the arguments unchanged. -/
theorem run_results : θ_run defs (onTc (τ := τ) (main (F := F))) ⟨m, fun _ => 0, ρ⟩ fun r => ∀ c : Dev nD,
      r.2.mem ((c : Thread nD τ).loc main_v3) = shapeCast S12x896x3584 (α := Elt F .bf16) ((dats m 0 c).arrAt 7 cfg0.N) shapeCasts_S10752x3584_S12x896x3584
      ∧ r.2.mem ((c : Thread nD τ).loc main_v4) = shapeCast S12x896x18944 (α := Elt F .fp8e4m3) ((dats m 0 c).arrAt 5 cfg0.N) shapeCasts_S10752x18944_S12x896x18944
      ∧ r.2.mem ((c : Thread nD τ).loc main_v5) = shapeCast S12x896 (α := Elt F .f32) ((dats m 0 c).arrAt 6 cfg0.N) shapeCasts_S10752x1_S12x896
      ∧ r.2.mem ((c : Thread nD τ).loc main_v6) = shapeCast S12x896x3584 (α := Elt F .fp8e4m3) ((dats m 0 c).arrAt 8 cfg0.N) shapeCasts_S10752x3584_S12x896x3584
      ∧ r.2.mem ((c : Thread nD τ).loc main_v7) = shapeCast S12x896 (α := Elt F .f32) ((dats m 0 c).arrAt 9 cfg0.N) shapeCasts_S10752x1_S12x896
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).2 main_v3 (Pipeline.mem_restRefs_of main_v3 (by decide) (by decide))).trans (tail_7 m c),
      ((h c).2 main_v4 (Pipeline.mem_restRefs_of main_v4 (by decide) (by decide))).trans (tail_5 m c),
      ((h c).2 main_v5 (Pipeline.mem_restRefs_of main_v5 (by decide) (by decide))).trans (tail_6 m c),
      ((h c).2 main_v6 (Pipeline.mem_restRefs_of main_v6 (by decide) (by decide))).trans (tail_8 m c),
      ((h c).2 main_v7 (Pipeline.mem_restRefs_of main_v7 (by decide) (by decide))).trans (tail_9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.DownReferenceIdeal.Dwn
-- ==== Proof.Down.RefBlock.lean ====
module

public import proofs.«01_k».proof.Proof.Gen.DownReferenceIdeal.Skeleton
public import proofs.«01_k».proof.Proof.Down.Spec

@[expose] public section

set_option maxRecDepth 16384

noncomputable section

/-! What the reference of the down projection computes, index by index. -/

namespace Cert.DownReferenceIdeal.Dwn

open Idealize.ShloMosaic Idealize.ShloMosaic.ValueIdx Cert.DownReferenceIdeal Cert.DownReferenceIdeal.Gen Cert.Quant

/-- The matrix product at a row and a column is the sum over the contracted axis. -/
theorem dot_apply (x : Vec Ideal S10752x18944 .fp8e4m3) (w : Vec Ideal S18944x3584 .fp8e4m3) (p : Fin 10752) (q : Fin 3584) :
    (matmul (φ₁ := .fp8e4m3) (φ₂ := .fp8e4m3) dot_S10752x18944_S18944x3584_S10752x3584_1_0_0_1_n_n none x w (constant S10752x3584 .f32 0x00000000#32) : FVec Ideal S10752x3584 .f32) (ix2 p q)
      = ∑ k : Fin 18944, x (ix2 p k) * w (ix2 k q) := by
  rw [matmul, Ideal.matmul_def, Ideal.matmul]
  rw [show (constant S10752x3584 .f32 0x00000000#32 : FVec Ideal S10752x3584 .f32) (ix2 p q) = 0 from Up.ofBits_zero, zero_add]
  rw [← Equiv.sum_comp (contrEquiv1 dot_S10752x18944_S18944x3584_S10752x3584_1_0_0_1_n_n 18944 rfl rfl).symm]
  refine Finset.sum_congr rfl fun k _ => ?_
  have hk := contrEquiv1_symm_val dot_S10752x18944_S18944x3584_S10752x3584_1_0_0_1_n_n 18944 rfl rfl k
  have e1 : DotDims.lhsIdx dot_S10752x18944_S18944x3584_S10752x3584_1_0_0_1_n_n (ix2 p q) ((contrEquiv1 dot_S10752x18944_S18944x3584_S10752x3584_1_0_0_1_n_n 18944 rfl rfl).symm k) = ix2 p k := by
    refine Shape.idx_ext₂ ?_ ?_
    · simp [DotDims.lhsIdx, dot_S10752x18944_S18944x3584_S10752x3584_1_0_0_1_n_n]; rfl
    · refine Eq.trans ?_ hk
      simp [DotDims.lhsIdx, dot_S10752x18944_S18944x3584_S10752x3584_1_0_0_1_n_n]; rfl
  have e2 : DotDims.rhsIdx dot_S10752x18944_S18944x3584_S10752x3584_1_0_0_1_n_n (ix2 p q) ((contrEquiv1 dot_S10752x18944_S18944x3584_S10752x3584_1_0_0_1_n_n 18944 rfl rfl).symm k) = ix2 k q := by
    refine Shape.idx_ext₂ ?_ ?_
    · refine Eq.trans ?_ hk
      simp [DotDims.rhsIdx, dot_S10752x18944_S18944x3584_S10752x3584_1_0_0_1_n_n]; rfl
    · simp [DotDims.rhsIdx, dot_S10752x18944_S18944x3584_S10752x3584_1_0_0_1_n_n]; rfl
  rw [e1, e2]

/-- A column spread over the columns of its rows. -/
theorem rows_apply (v : FVec Ideal S10752x1 .f32) (p : Fin 10752) (q : Fin 3584) :
    (broadcastTo S10752x3584 v broadcasts_S10752x1_S10752x3584 : FVec Ideal S10752x3584 .f32) (ix2 p q) = v (ix2 p 0) :=
  broadcastTo_apply v _ (ix2 p q) (ix2 p 0) fun a => match a with
    | ⟨0, _⟩ => by show _ = if (10752 : ℕ) = 1 then 0 else _; rw [if_neg (by decide)]; rfl
    | ⟨1, _⟩ => by rw [if_pos (by rfl)]; rfl

/-- A column spread over the columns of its rows. -/
theorem rowsH_apply (v : FVec Ideal S10752x1 .f32) (p : Fin 10752) (q : Fin 18944) :
    (broadcastTo S10752x18944 v broadcasts_S10752x1_S10752x18944 : FVec Ideal S10752x18944 .f32) (ix2 p q) = v (ix2 p 0) :=
  broadcastTo_apply v _ (ix2 p q) (ix2 p 0) fun a => match a with
    | ⟨0, _⟩ => by show _ = if (10752 : ℕ) = 1 then 0 else _; rw [if_neg (by decide)]; rfl
    | ⟨1, _⟩ => by rw [if_pos (by rfl)]; rfl

/-- A row spread over the rows. -/
theorem cols_apply (v : FVec Ideal S1x3584 .f32) (p : Fin 10752) (q : Fin 3584) :
    (broadcastTo S10752x3584 v broadcasts_S1x3584_S10752x3584 : FVec Ideal S10752x3584 .f32) (ix2 p q) = v (ix2 0 q) :=
  broadcastTo_apply v _ (ix2 p q) (ix2 0 q) fun a => match a with
    | ⟨0, _⟩ => by rw [if_pos (by rfl)]; rfl
    | ⟨1, _⟩ => by show _ = if (3584 : ℕ) = 1 then 0 else _; rw [if_neg (by decide)]; rfl

/-- The row maximum of the magnitudes, as a column. -/
theorem rowmax_apply (v : FVec Ideal S10752x3584 .f32) (p : Fin 10752) :
    (shapeCast S10752x1 (multiReduction .maximumf [1] S10752 (absf v) 0xFF800000#32 reduces_S10752x3584_S10752 (.inl rfl) rfl)
      shapeCasts_S10752_S10752x1 : FVec Ideal S10752x1 .f32) (ix2 p 0) = Finset.univ.sup fun q : Fin 3584 => Up.mag (v (ix2 p q)) := by
  rw [shapeCast_apply _ _ (ix2 p 0) (fun a => match a with | ⟨0, _⟩ => p) (by rw [Shape.rowMajor_val_one, Shape.rowMajor_val_two]; simp [ix2])]
  refine (Ideal.multiReduction_maximumf_single _ _ _ _ _ _).trans ?_
  rw [show (FloatOps.ofBits .f32 0xFF800000#32 : Ideal .f32) = ⊥ from Up.ofBits_bot]
  refine Finset.fold_congr fun q _ => ?_
  refine congrArg (absf v) (Shape.idx_ext₂ rfl rfl)

/-- The exponent of a column of row maxima. -/
theorem expo_at (a : FVec Ideal S10752x1 .f32) (i : S10752x1.Idx) :
    (select (ori (cmpf .olt (mulf a (broadcast S10752x1 (Scalar.ofBits .f32 0x3B124925#32))) (broadcast S10752x1 (Scalar.ofBits .f32 0x00800000#32)))
        (cmpf .ogt a (broadcast S10752x1 (Scalar.ofBits .f32 0x7F7FFFFF#32))))
      (broadcast S10752x1 (Scalar.ofBits .f32 0x00000000#32))
      (addf (floor (divf (log (mulf a (broadcast S10752x1 (Scalar.ofBits .f32 0x3B124925#32)))) (log (broadcast S10752x1 (Scalar.ofBits .f32 0x40000000#32)))))
        (broadcast S10752x1 (Scalar.ofBits .f32 0x3F800000#32))) : FVec Ideal S10752x1 .f32) i = rexp (a i) := rfl

/-- Two to a column. -/
theorem exp2_at (a : FVec Ideal S10752x1 .f32) (i : S10752x1.Idx) : (exp2 a : FVec Ideal S10752x1 .f32) i = Ideal.exp2 (a i) := rfl

/-- Two to the opposite of a column. -/
theorem exp2_neg_at (a : FVec Ideal S10752x1 .f32) (i : S10752x1.Idx) :
    (exp2 (subf (broadcast S10752x1 (Scalar.ofBits .f32 0x00000000#32)) a) : FVec Ideal S10752x1 .f32) i = Ideal.exp2 (fb 0x00000000#32 - a i) := rfl

/-- The cut-off product, entry by entry. -/
theorem code_at (v s : FVec Ideal S10752x3584 .f32) (i : S10752x3584.Idx) :
    (truncf .fp8e4m3 (minimumf (broadcast S10752x3584 (Scalar.ofBits .f32 0x43E00000#32)) (maximumf (broadcast S10752x3584 (Scalar.ofBits .f32 0xC3E00000#32)) (mulf v s))) bitsLt_fp8e4m3_f32
      : FVec Ideal S10752x3584 .fp8e4m3) i = code (v i) (s i) := rfl

/-- The cut-off product, entry by entry. -/
theorem codeH_at (v s : FVec Ideal S10752x18944 .f32) (i : S10752x18944.Idx) :
    (truncf .fp8e4m3 (minimumf (broadcast S10752x18944 (Scalar.ofBits .f32 0x43E00000#32)) (maximumf (broadcast S10752x18944 (Scalar.ofBits .f32 0xC3E00000#32)) (mulf v s))) bitsLt_fp8e4m3_f32
      : FVec Ideal S10752x18944 .fp8e4m3) i = code (v i) (s i) := rfl

/-- Two products in a row. -/
theorem mul_at (v s t : FVec Ideal S10752x3584 .f32) (i : S10752x3584.Idx) :
    (mulf (mulf v s) t : FVec Ideal S10752x3584 .f32) i = v i * s i * t i := rfl

/-- A sum, entry by entry. -/
theorem add_at (v s : FVec Ideal S10752x3584 .f32) (i : S10752x3584.Idx) :
    (addf v s : FVec Ideal S10752x3584 .f32) i = v i + s i := rfl

/-- A bf16 value as f32 is the same number. -/
theorem ext_at (v : FVec Ideal S10752x3584 .bf16) (i : S10752x3584.Idx) :
    (extf .f32 v bitsLt_bf16_f32 : FVec Ideal S10752x3584 .f32) i = v i := rfl

/-- An f32 value as bf16 is the same number. -/
theorem trunc_at (v : FVec Ideal S10752x3584 .f32) (i : S10752x3584.Idx) :
    (truncf .bf16 v bitsLt_bf16_f32 : FVec Ideal S10752x3584 .bf16) i = v i := rfl

/-- The exponent of the row scale of `h`. -/
theorem pay1_apply (a : Vec Ideal S10752x1 .f32) (p : Fin 10752) : Gen.k0_pay1 a (ix2 p 0) = rexp (a (ix2 p 0)) := by
  unfold Gen.k0_pay1
  exact expo_at _ _

/-- The row scales of `h`. -/
theorem pay2_apply (a : Vec Ideal S10752x1 .f32) (p : Fin 10752) : Gen.k0_pay2 a (ix2 p 0) = hsv a p := by
  unfold Gen.k0_pay2 hsv rscale
  exact (exp2_at _ _).trans (congrArg Ideal.exp2 (pay1_apply a p))

/-- The codes of `h`. -/
theorem pay3_apply (h : Vec Ideal S10752x18944 .f32) (a : Vec Ideal S10752x1 .f32) (p : Fin 10752) (q : Fin 18944) :
    Gen.k0_pay3 h a (ix2 p q) = hcode h a p q := by
  unfold Gen.k0_pay3 hcode rinv
  refine (codeH_at _ _ _).trans (congrArg (code (h (ix2 p q))) ?_)
  refine (rowsH_apply _ p q).trans ?_
  exact (exp2_neg_at _ _).trans (congrArg (fun e : EReal => Ideal.exp2 (fb 0x00000000#32 - e)) (pay1_apply a p))

/-- The scaled contraction. -/
theorem pay4_apply (h : Vec Ideal S10752x18944 .f32) (a : Vec Ideal S10752x1 .f32) (w : Vec Ideal S18944x3584 .fp8e4m3)
    (s : Vec Ideal S1x3584 .f32) (p : Fin 10752) (q : Fin 3584) :
    Gen.k0_pay4 h a w s (ix2 p q) = dotTo h a w p q 18944 * rscale (a (ix2 p 0)) * s (ix2 0 q) := by
  unfold Gen.k0_pay4
  simp only [shapeCast_self]
  refine (mul_at _ _ _ _).trans ?_
  refine congrArg₂ (· * ·) (congrArg₂ (· * ·) ?_ ?_) (cols_apply s p q)
  · rw [dotTo_all]
    refine (dot_apply _ w p q).trans ?_
    exact Finset.sum_congr rfl fun k _ => congrArg (· * w (ix2 k q)) (pay3_apply h a p k)
  · exact (rows_apply _ p q).trans (pay2_apply a p)

/-- The result, not yet rounded. -/
theorem pay6_apply (h : Vec Ideal S10752x18944 .f32) (a : Vec Ideal S10752x1 .f32) (w : Vec Ideal S18944x3584 .fp8e4m3)
    (s : Vec Ideal S1x3584 .f32) (x : Vec Ideal S10752x3584 .bf16) (p : Fin 10752) (q : Fin 3584) :
    Gen.k0_pay6 (Gen.k0_pay4 h a w s) (Gen.k0_pay5 x) (ix2 p q) = yv h a w s x p q := by
  unfold Gen.k0_pay6 Gen.k0_pay5 yv
  simp only [shapeCast_self]
  refine (add_at _ _ _).trans ?_
  exact congrArg₂ (· + ·) (ext_at x _) (pay4_apply h a w s p q)

/-- The exponent of the result's row scale. -/
theorem pay7_apply (h : Vec Ideal S10752x18944 .f32) (a : Vec Ideal S10752x1 .f32) (w : Vec Ideal S18944x3584 .fp8e4m3)
    (s : Vec Ideal S1x3584 .f32) (x : Vec Ideal S10752x3584 .bf16) (p : Fin 10752) :
    Gen.k0_pay7 (Gen.k0_pay4 h a w s) (Gen.k0_pay5 x) (ix2 p 0) = rexp (ymax h a w s x p) := by
  unfold Gen.k0_pay7
  refine (expo_at _ _).trans (congrArg rexp ?_)
  refine (rowmax_apply _ p).trans ?_
  unfold ymax
  exact Finset.sup_congr rfl fun k _ => congrArg Up.mag (pay6_apply h a w s x p k)

/-- The result's row scales. -/
theorem pay8_apply (h : Vec Ideal S10752x18944 .f32) (a : Vec Ideal S10752x1 .f32) (w : Vec Ideal S18944x3584 .fp8e4m3)
    (s : Vec Ideal S1x3584 .f32) (x : Vec Ideal S10752x3584 .bf16) (p : Fin 10752) :
    Gen.k0_pay8 (Gen.k0_pay4 h a w s) (Gen.k0_pay5 x) (ix2 p 0) = ysv h a w s x p := by
  unfold Gen.k0_pay8 ysv rscale
  exact (exp2_at _ _).trans (congrArg Ideal.exp2 (pay7_apply h a w s x p))

/-- The result's codes. -/
theorem pay9_apply (h : Vec Ideal S10752x18944 .f32) (a : Vec Ideal S10752x1 .f32) (w : Vec Ideal S18944x3584 .fp8e4m3)
    (s : Vec Ideal S1x3584 .f32) (x : Vec Ideal S10752x3584 .bf16) (p : Fin 10752) (q : Fin 3584) :
    Gen.k0_pay9 (Gen.k0_pay4 h a w s) (Gen.k0_pay5 x) (ix2 p q) = ycv h a w s x p q := by
  unfold Gen.k0_pay9 ycv rinv
  refine (code_at _ _ _).trans (congrArg₂ code (pay6_apply h a w s x p q) ?_)
  refine (rows_apply _ p q).trans ?_
  exact (exp2_neg_at _ _).trans (congrArg (fun e : EReal => Ideal.exp2 (fb 0x00000000#32 - e)) (pay7_apply h a w s x p))

/-- The result as bf16. -/
theorem pay10_apply (h : Vec Ideal S10752x18944 .f32) (a : Vec Ideal S10752x1 .f32) (w : Vec Ideal S18944x3584 .fp8e4m3)
    (s : Vec Ideal S1x3584 .f32) (x : Vec Ideal S10752x3584 .bf16) (p : Fin 10752) (q : Fin 3584) :
    Gen.k0_pay10 (Gen.k0_pay4 h a w s) (Gen.k0_pay5 x) (ix2 p q) = yv h a w s x p q := by
  unfold Gen.k0_pay10
  exact (trunc_at _ _).trans (pay6_apply h a w s x p q)

end Cert.DownReferenceIdeal.Dwn
-- ==== Proof.Down.Equation.lean ====
module

public import proofs.«01_k».proof.Defs
public import proofs.«01_k».proof.Proof.Down.Arrays
public import proofs.«01_k».proof.Proof.Down.RefArrays
public import proofs.«01_k».proof.Proof.Down.RefBlock

@[expose] public section

set_option maxRecDepth 16384

noncomputable section

/-! The equation: over the extended reals the down projection's five arrays are its reference's. -/

namespace Cert.DownEquation

open Idealize.ShloMosaic Idealize.ShloMosaic.TcCoe Idealize.ShloMosaic.ValueIdx Idealize.SL.Sem

/-- The two launches agree on the five arguments, on one device. -/
structure Same (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) : Prop where
  e0 : m' ((c : Thread Cert.DownReferenceIdeal.nD Cert.DownReferenceIdeal.τ).loc Cert.DownReferenceIdeal.main_arg0) = m ((c : Thread Cert.DownIdeal.nD Cert.DownIdeal.τ).loc Cert.DownIdeal.main_arg0)
  e1 : m' ((c : Thread Cert.DownReferenceIdeal.nD Cert.DownReferenceIdeal.τ).loc Cert.DownReferenceIdeal.main_arg1) = m ((c : Thread Cert.DownIdeal.nD Cert.DownIdeal.τ).loc Cert.DownIdeal.main_arg1)
  e2 : m' ((c : Thread Cert.DownReferenceIdeal.nD Cert.DownReferenceIdeal.τ).loc Cert.DownReferenceIdeal.main_arg2) = m ((c : Thread Cert.DownIdeal.nD Cert.DownIdeal.τ).loc Cert.DownIdeal.main_arg2)
  e3 : m' ((c : Thread Cert.DownReferenceIdeal.nD Cert.DownReferenceIdeal.τ).loc Cert.DownReferenceIdeal.main_arg3) = m ((c : Thread Cert.DownIdeal.nD Cert.DownIdeal.τ).loc Cert.DownIdeal.main_arg3)
  e4 : m' ((c : Thread Cert.DownReferenceIdeal.nD Cert.DownReferenceIdeal.τ).loc Cert.DownReferenceIdeal.main_arg4) = m ((c : Thread Cert.DownIdeal.nD Cert.DownIdeal.τ).loc Cert.DownIdeal.main_arg4)

/-- Both calls find the same array `h`. -/
theorem h_eq (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.V m' c Cert.DownReferenceIdeal.main_arg0 : Cert.Quant.AH) = Cert.DownIdeal.Dwn.aH m c := (((Cert.DownReferenceIdeal.Gen.V_main_arg0 m' c).trans e.e0).trans (Cert.DownIdeal.Gen.V_main_arg0 m c).symm)

/-- Both calls find the same row maxima. -/
theorem a_eq (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.V m' c Cert.DownReferenceIdeal.main_arg1 : Cert.Quant.AC) = Cert.DownIdeal.Dwn.aA m c := (((Cert.DownReferenceIdeal.Gen.V_main_arg1 m' c).trans e.e1).trans (Cert.DownIdeal.Gen.V_main_arg1 m c).symm)

/-- Both calls find the same weight. -/
theorem w_eq (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.V m' c Cert.DownReferenceIdeal.main_arg2 : Cert.Quant.AW) = Cert.DownIdeal.Dwn.aW m c := (((Cert.DownReferenceIdeal.Gen.V_main_arg2 m' c).trans e.e2).trans (Cert.DownIdeal.Gen.V_main_arg2 m c).symm)

/-- Both calls find the same weight scales. -/
theorem s_eq (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.V m' c Cert.DownReferenceIdeal.main_v0 : Cert.Quant.AS) = Cert.DownIdeal.Dwn.aS m c := by
  unfold Cert.DownIdeal.Dwn.aS
  rw [Cert.DownReferenceIdeal.Dwn.V_v0, Cert.DownIdeal.Dwn.V_v1, e.e3]

/-- Both calls find the same residual. -/
theorem x_eq (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.V m' c Cert.DownReferenceIdeal.main_v1 : Cert.Quant.AX) = Cert.DownIdeal.Dwn.aX m c := by
  unfold Cert.DownIdeal.Dwn.aX
  rw [Cert.DownReferenceIdeal.Dwn.V_v1, Cert.DownIdeal.Dwn.V_v0, e.e4]

/-- The reference's codes of `h` are the kernel's. -/
theorem out_5 (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.dats m' 0 c).arrAt 5 Cert.DownReferenceIdeal.cfg0.N = Cert.DownIdeal.Dwn.G5 m c := by
  rw [Cert.DownReferenceIdeal.Dwn.final_5, h_eq m m' c e, a_eq m m' c e]
  funext (y : Cert.DownReferenceIdeal.S10752x18944.Idx)
  rw [show y = ix2 (y 0) (y 1) from eq_ix2 y]
  exact Cert.DownReferenceIdeal.Dwn.pay3_apply _ _ (y 0) (y 1)

/-- The reference's scales of `h` are the kernel's. -/
theorem out_6 (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.dats m' 0 c).arrAt 6 Cert.DownReferenceIdeal.cfg0.N = Cert.DownIdeal.Dwn.G6 m c := by
  rw [Cert.DownReferenceIdeal.Dwn.final_6, a_eq m m' c e]
  funext (y : Cert.DownReferenceIdeal.S10752x1.Idx)
  rw [show y = ix2 (y 0) 0 from (eq_ix2 y).trans (congrArg (ix2 (y 0)) (Fin.ext (Nat.lt_one_iff.mp (y 1).isLt)))]
  exact Cert.DownReferenceIdeal.Dwn.pay2_apply _ (y 0)

/-- The reference's result's rows are the kernel's. -/
theorem out_7 (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.dats m' 0 c).arrAt 7 Cert.DownReferenceIdeal.cfg0.N = Cert.DownIdeal.Dwn.G7 m c := by
  rw [Cert.DownReferenceIdeal.Dwn.final_7, h_eq m m' c e, a_eq m m' c e, w_eq m m' c e, s_eq m m' c e, x_eq m m' c e]
  funext (y : Cert.DownReferenceIdeal.S10752x3584.Idx)
  rw [show y = ix2 (y 0) (y 1) from eq_ix2 y]
  exact Cert.DownReferenceIdeal.Dwn.pay10_apply _ _ _ _ _ (y 0) (y 1)

/-- The reference's result's codes are the kernel's. -/
theorem out_8 (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.dats m' 0 c).arrAt 8 Cert.DownReferenceIdeal.cfg0.N = Cert.DownIdeal.Dwn.G8 m c := by
  rw [Cert.DownReferenceIdeal.Dwn.final_8, h_eq m m' c e, a_eq m m' c e, w_eq m m' c e, s_eq m m' c e, x_eq m m' c e]
  funext (y : Cert.DownReferenceIdeal.S10752x3584.Idx)
  rw [show y = ix2 (y 0) (y 1) from eq_ix2 y]
  exact Cert.DownReferenceIdeal.Dwn.pay9_apply _ _ _ _ _ (y 0) (y 1)

/-- The reference's result's scales are the kernel's. -/
theorem out_9 (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD) (e : Same m m' c) :
    (Cert.DownReferenceIdeal.Gen.dats m' 0 c).arrAt 9 Cert.DownReferenceIdeal.cfg0.N = Cert.DownIdeal.Dwn.G9 m c := by
  rw [Cert.DownReferenceIdeal.Dwn.final_9, h_eq m m' c e, a_eq m m' c e, w_eq m m' c e, s_eq m m' c e, x_eq m m' c e]
  funext (y : Cert.DownReferenceIdeal.S10752x1.Idx)
  rw [show y = ix2 (y 0) 0 from (eq_ix2 y).trans (congrArg (ix2 (y 0)) (Fin.ext (Nat.lt_one_iff.mp (y 1).isLt)))]
  exact Cert.DownReferenceIdeal.Dwn.pay8_apply _ _ _ _ _ (y 0)

/-- The algebraic claim of the down projection. -/
theorem algebraic : Cert.algebraic_DownIdeal_DownReferenceIdeal
    (hDownIdeal := Cert.DownIdeal.Gen.facts) (hDownReferenceIdeal := Cert.DownReferenceIdeal.Gen.facts) := by
  intro m g m' g' _ hargs
  refine ⟨fun c => shapeCast Cert.DownIdeal.S12x896x3584 (α := Elt Ideal .bf16) (Cert.DownIdeal.Dwn.G7 m c) (Cert.DownIdeal.Gen.facts.shapeCasts_S10752x3584_S12x896x3584),
    fun c => shapeCast Cert.DownIdeal.S12x896x18944 (α := Elt Ideal .fp8e4m3) (Cert.DownIdeal.Dwn.G5 m c) (Cert.DownIdeal.Gen.facts.shapeCasts_S10752x18944_S12x896x18944),
    fun c => shapeCast Cert.DownIdeal.S12x896 (α := Elt Ideal .f32) (Cert.DownIdeal.Dwn.G6 m c) (Cert.DownIdeal.Gen.facts.shapeCasts_S10752x1_S12x896),
    fun c => shapeCast Cert.DownIdeal.S12x896x3584 (α := Elt Ideal .fp8e4m3) (Cert.DownIdeal.Dwn.G8 m c) (Cert.DownIdeal.Gen.facts.shapeCasts_S10752x3584_S12x896x3584),
    fun c => shapeCast Cert.DownIdeal.S12x896 (α := Elt Ideal .f32) (Cert.DownIdeal.Dwn.G9 m c) (Cert.DownIdeal.Gen.facts.shapeCasts_S10752x1_S12x896), ?_, ?_⟩
  · refine (θ_run _ _ _).mono (fun r h c => ?_) (Cert.DownIdeal.Dwn.run_results (F := Ideal) m g)
    obtain ⟨h7, h5, h6, h8, h9, hk⟩ := h c
    exact ⟨h7.trans (congrArg (fun v : Cert.DownIdeal.S10752x3584.Idx → Elt Ideal .bf16 => shapeCast Cert.DownIdeal.S12x896x3584 v (Cert.DownIdeal.Gen.facts.shapeCasts_S10752x3584_S12x896x3584)) (Cert.DownIdeal.Dwn.final_7 m c)),
      h5.trans (congrArg (fun v : Cert.DownIdeal.S10752x18944.Idx → Elt Ideal .fp8e4m3 => shapeCast Cert.DownIdeal.S12x896x18944 v (Cert.DownIdeal.Gen.facts.shapeCasts_S10752x18944_S12x896x18944)) (Cert.DownIdeal.Dwn.final_5 m c)),
      h6.trans (congrArg (fun v : Cert.DownIdeal.S10752x1.Idx → Elt Ideal .f32 => shapeCast Cert.DownIdeal.S12x896 v (Cert.DownIdeal.Gen.facts.shapeCasts_S10752x1_S12x896)) (Cert.DownIdeal.Dwn.final_6 m c)),
      h8.trans (congrArg (fun v : Cert.DownIdeal.S10752x3584.Idx → Elt Ideal .fp8e4m3 => shapeCast Cert.DownIdeal.S12x896x3584 v (Cert.DownIdeal.Gen.facts.shapeCasts_S10752x3584_S12x896x3584)) (Cert.DownIdeal.Dwn.final_8 m c)),
      h9.trans (congrArg (fun v : Cert.DownIdeal.S10752x1.Idx → Elt Ideal .f32 => shapeCast Cert.DownIdeal.S12x896 v (Cert.DownIdeal.Gen.facts.shapeCasts_S10752x1_S12x896)) (Cert.DownIdeal.Dwn.final_9 m c)), hk⟩
  · refine (θ_run _ _ _).mono (fun r h c => ?_) (Cert.DownReferenceIdeal.Dwn.run_results (F := Ideal) m' g')
    obtain ⟨h7, h5, h6, h8, h9, hk⟩ := h c
    obtain ⟨e0, e1, e2, e3, e4⟩ := hargs c
    have e : Same m m' c := ⟨e0, e1, e2, e3, e4⟩
    exact ⟨h7.trans (congrArg (fun v : Cert.DownIdeal.S10752x3584.Idx → Elt Ideal .bf16 => shapeCast Cert.DownIdeal.S12x896x3584 v (Cert.DownIdeal.Gen.facts.shapeCasts_S10752x3584_S12x896x3584)) (out_7 m m' c e)),
      h5.trans (congrArg (fun v : Cert.DownIdeal.S10752x18944.Idx → Elt Ideal .fp8e4m3 => shapeCast Cert.DownIdeal.S12x896x18944 v (Cert.DownIdeal.Gen.facts.shapeCasts_S10752x18944_S12x896x18944)) (out_5 m m' c e)),
      h6.trans (congrArg (fun v : Cert.DownIdeal.S10752x1.Idx → Elt Ideal .f32 => shapeCast Cert.DownIdeal.S12x896 v (Cert.DownIdeal.Gen.facts.shapeCasts_S10752x1_S12x896)) (out_6 m m' c e)),
      h8.trans (congrArg (fun v : Cert.DownIdeal.S10752x3584.Idx → Elt Ideal .fp8e4m3 => shapeCast Cert.DownIdeal.S12x896x3584 v (Cert.DownIdeal.Gen.facts.shapeCasts_S10752x3584_S12x896x3584)) (out_8 m m' c e)),
      h9.trans (congrArg (fun v : Cert.DownIdeal.S10752x1.Idx → Elt Ideal .f32 => shapeCast Cert.DownIdeal.S12x896 v (Cert.DownIdeal.Gen.facts.shapeCasts_S10752x1_S12x896)) (out_9 m m' c e)), hk⟩

end Cert.DownEquation
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormReferenceIdeal
public import proofs.«01_k».proof.Proof.Gen.NormReferenceIdeal.Frame
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownReferenceIdeal
public import proofs.«01_k».proof.Proof.Gen.DownReferenceIdeal.Frame
public import proofs.«01_k».proof.Proof.Up.Equation
public import proofs.«01_k».proof.Proof.Norm.Equation
public import proofs.«01_k».proof.Proof.Down.Equation
public import Idealize.ShloMosaic.Adequacy
public import Idealize.ShloMosaic.Init

@[expose] public section

noncomputable section

namespace Cert.Proof

open Idealize.ShloMosaic Idealize.SL.Sem Cert.Kernel

/-- Everything claimed: the nine frames, and for each of the three calls the kept code and the equation. -/
theorem claim : Cert.Claim := ⟨Cert.Kernel.Gen.facts, Cert.KernelIdeal.Gen.facts, Cert.ReferenceIdeal.Gen.facts,
  Cert.Norm.Gen.facts, Cert.NormIdeal.Gen.facts, Cert.NormReferenceIdeal.Gen.facts,
  Cert.Down.Gen.facts, Cert.DownIdeal.Gen.facts, Cert.DownReferenceIdeal.Gen.facts,
  fun m ρ _ => Cert.Kernel.Gen.frame m ρ, fun m ρ _ => Cert.KernelIdeal.Gen.frame m ρ,
  fun m ρ _ => Cert.ReferenceIdeal.Gen.frame m ρ,
  fun m ρ _ => Cert.Norm.Gen.frame m ρ, fun m ρ _ => Cert.NormIdeal.Gen.frame m ρ,
  fun m ρ _ => Cert.NormReferenceIdeal.Gen.frame m ρ,
  fun m ρ _ => Cert.Down.Gen.frame m ρ, fun m ρ _ => Cert.DownIdeal.Gen.frame m ρ,
  fun m ρ _ => Cert.DownReferenceIdeal.Gen.frame m ρ,
  trivial, Cert.UpEquation.algebraic, trivial, Cert.NormEquation.algebraic,
  trivial, Cert.DownEquation.algebraic⟩

end Cert.Proof

end
